-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_pre : Cert.Pre_experts_pre.Facts] (m : (ℓ : Loc Cert.Kernel2.nD Cert.Kernel2.τ Cert.Kernel2.sig) → Buf (Elt Bits) ℓ) : Prop :=
  ∀ c : Dev Cert.Kernel2.nD,
    (Cert.Pre_experts_pre.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_pre : Cert.Pre_experts_pre.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_pre.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_experts_pre : Cert.Pre_experts_pre.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_pre.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_experts_pre : Cert.Pre_experts_pre.Facts] (m : (ℓ : Loc Cert.Kernel3.nD Cert.Kernel3.τ Cert.Kernel3.sig) → Buf (Elt Bits) ℓ) : Prop :=
  ∀ c : Dev Cert.Kernel3.nD,
    (Cert.Pre_experts_pre.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_experts_pre : Cert.Pre_experts_pre.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_pre.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_experts_pre : Cert.Pre_experts_pre.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_pre.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_pre : Cert.Pre_experts_pre.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_pre : Cert.Pre_experts_pre.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_experts_pre : Cert.Pre_experts_pre.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_pre : Cert.Pre_experts_pre.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_pre : Cert.Pre_experts_pre.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_experts_pre : Cert.Pre_experts_pre.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_pre : Cert.Pre_experts_pre.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v243) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_pre : Cert.Pre_experts_pre.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v243) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_pre : Cert.Pre_experts_pre.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_pre := hPre_experts_pre)
    ∧ quiescent_Kernel2Ideal (hKernel2Ideal := hKernel2Ideal) (hPre_experts_pre := hPre_experts_pre)
    ∧ quiescent_Reference2Ideal (hReference2Ideal := hReference2Ideal) (hPre_experts_pre := hPre_experts_pre)
    ∧ quiescent_Kernel3 (hKernel3 := hKernel3) (hPre_experts_pre := hPre_experts_pre)
    ∧ quiescent_Kernel3Ideal (hKernel3Ideal := hKernel3Ideal) (hPre_experts_pre := hPre_experts_pre)
    ∧ quiescent_Reference3Ideal (hReference3Ideal := hReference3Ideal) (hPre_experts_pre := hPre_experts_pre)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_pre := hPre_experts_pre)
    ∧ preserves_Kernel3_Kernel3Ideal
    ∧ algebraic_Kernel3Ideal_Reference3Ideal (hKernel3Ideal := hKernel3Ideal) (hReference3Ideal := hReference3Ideal) (hPre_experts_pre := hPre_experts_pre)
-- ==== Pre_experts_pre.lean ====
abbrev S80 : Shape := ⟨1, ![80]⟩
abbrev S1 : Shape := ⟨1, ![1]⟩
abbrev S327680x128 : Shape := ⟨2, ![327680, 128]⟩
abbrev S2x16x1024x1024 : Shape := ⟨4, ![2, 16, 1024, 1024]⟩
abbrev S2x16x512x1024 : Shape := ⟨4, ![2, 16, 512, 1024]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S80 32) (main_arg1 : IVec S1 32) (main_arg2 : FVec F S327680x128 .f32) (main_arg3 : FVec F S2x16x1024x1024 .f32) (main_arg4 : FVec F S2x16x512x1024 .f32) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 0#32
  let main_v6 : IVec S1 32 := broadcastInDim S1 ![] bcast_S_S1 main_c_2
  let main_v7 : IVec S1 1 := cmpi .sge main_arg1 main_v6
  let main_c_3 : IVec S_ 32 := constantI S_ 32 80#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S4x4096x1024 : Shape := ⟨3, ![4, 4096, 1024]⟩
abbrev S4x6x1024 : Shape := ⟨3, ![4, 6, 1024]⟩
abbrev S1024x3072 : Shape := ⟨2, ![1024, 3072]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x6x1024 : Shape := ⟨3, ![1, 6, 1024]⟩
abbrev S520x1024 : Shape := ⟨2, ![520, 1024]⟩
abbrev S8x1024 : Shape := ⟨2, ![8, 1024]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x3072, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S3x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S520x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x1024 : Shape := ⟨3, ![4, 4096, 1024]⟩
abbrev S4x6x1024 : Shape := ⟨3, ![4, 6, 1024]⟩
abbrev S1024x3072 : Shape := ⟨2, ![1024, 3072]⟩
abbrev S3x1024 : Shape := ⟨2, ![3, 1024]⟩
abbrev S1024 : Shape := ⟨1, ![1024]⟩
abbrev S1024x1024 : Shape := ⟨2, ![1024, 1024]⟩
abbrev S4x1x1024 : Shape := ⟨3, ![4, 1, 1024]⟩
abbrev S_ : Shape := ⟨0, ![]⟩
abbrev S4x4096x3072 : Shape := ⟨3, ![4, 4096, 3072]⟩
abbrev S4x4098x1024 : Shape := ⟨3, ![4, 4098, 1024]⟩
abbrev S1x1024 : Shape := ⟨2, ![1, 1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x3072, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .i32⟩
  | .hbm, ⟨24, _⟩ => ⟨S_, .f32⟩
  | .hbm, ⟨25, _⟩ => ⟨S4x4098x1024, .f32⟩
  | .hbm, ⟨26, _⟩ => ⟨S1x1024, .f32⟩
  | .hbm, ⟨27, _⟩ => ⟨S1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S1x1024, .f32⟩
  | .hbm, ⟨36, _⟩ => ⟨S1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1x1024, .f32⟩
  | .hbm, ⟨43, _⟩ => ⟨S1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S1x1x1024, .f32⟩
  | .hbm, ⟨87, _⟩ => ⟨S4x4096x1024, .f32⟩
  | .hbm, ⟨88, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S80 : Shape := ⟨1, ![80]⟩
abbrev S1 : Shape := ⟨1, ![1]⟩
abbrev S327680x128 : Shape := ⟨2, ![327680, 128]⟩
abbrev S2x16x1024x1024 : Shape := ⟨4, ![2, 16, 1024, 1024]⟩
abbrev S2x16x512x1024 : Shape := ⟨4, ![2, 16, 512, 1024]⟩
abbrev S_ : Shape := ⟨0, ![]⟩
abbrev S79 : Shape := ⟨1, ![79]⟩
abbrev S4096x128 : Shape := ⟨2, ![4096, 128]⟩
abbrev S1x1x1024x1024 : Shape := ⟨4, ![1, 1, 1024, 1024]⟩
abbrev S1x1x512x1024 : Shape := ⟨4, ![1, 1, 512, 1024]⟩
abbrev S2x1024x1024 : Shape := ⟨3, ![2, 1024, 1024]⟩
abbrev S512x1024 : Shape := ⟨2, ![512, 1024]⟩
abbrev S1024x1024 : Shape := ⟨2, ![1024, 1024]⟩
abbrev S1x1024x1024 : Shape := ⟨3, ![1, 1024, 1024]⟩
abbrev S512x128 : Shape := ⟨2, ![512, 128]⟩
abbrev S512x512 : Shape := ⟨2, ![512, 512]⟩

abbrev nBuf : Space → Nat
  | .hbm => 37
  | .vmem => 11
  | .smem => 4
  | _ => 0

abbrev bufTy : (tb : Table) → Fin (tcTables nBuf tb) → BufTy
  | .hbm, ⟨0, _⟩ => ⟨S327680x128, .f32⟩
  | .hbm, ⟨1, _⟩ => ⟨S2x16x1024x1024, .f32⟩
  | .hbm, ⟨2, _⟩ => ⟨S2x16x512x1024, .f32⟩
  | .hbm, ⟨3, _⟩ => ⟨S_, .i32⟩
  | .hbm, ⟨4, _⟩ => ⟨S1, .i32⟩
  | .hbm, ⟨5, _⟩ => ⟨S79, .i32⟩
  | .hbm, ⟨6, _⟩ => ⟨S79, .i32⟩
  | .hbm, ⟨7, _⟩ => ⟨S79, .i1⟩
  | .hbm, ⟨8, _⟩ => ⟨S79, .i32⟩
  | .hbm, ⟨9, _⟩ => ⟨S_, .i32⟩
  | .hbm, ⟨10, _⟩ => ⟨S_, .i32⟩
  | .hbm, ⟨11, _⟩ => ⟨S80, .i32⟩
  | .hbm, ⟨12, _⟩ => ⟨S_, .i32⟩
  | .hbm, ⟨13, _⟩ => ⟨S80, .i32⟩
  | .hbm, ⟨14, _⟩ => ⟨S80, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S80, .i32⟩
  | .hbm, ⟨22, _⟩ => ⟨S80, .i32⟩
  | .hbm, ⟨23, _⟩ => ⟨S_, .i32⟩
  | .hbm, ⟨24, _⟩ => ⟨S80, .i32⟩
  | .hbm, ⟨25, _⟩ => ⟨S80, .i1⟩
  | .hbm, ⟨26, _⟩ => ⟨S_, .i32⟩
  | .hbm, ⟨27, _⟩ => ⟨S80, .i32⟩
  | .hbm, ⟨28, _⟩ => ⟨S80, .i1⟩
  | .hbm, ⟨29, _⟩ => ⟨S_, .i32⟩
  | .hbm, ⟨30, _⟩ => ⟨S_, .i1⟩
  | .hbm, ⟨31, _⟩ => ⟨S80, .i1⟩
  | .hbm, ⟨32, _⟩ => ⟨S80, .i1⟩
  | .hbm, ⟨33, _⟩ => ⟨S80, .i1⟩
  | .hbm, ⟨34, _⟩ => ⟨S80, .i32⟩
  | .hbm, ⟨35, _⟩ => ⟨S80, .i32⟩
  | .hbm, ⟨36, _⟩ => ⟨S327680x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S4096x128, .f32⟩
  | .local _ .vmem, ⟨8, _⟩ => ⟨S4096x128, .f32⟩
  | .local _ .vmem, ⟨9, _⟩ => ⟨S2x1024x1024, .bf16⟩
  | .local _ .vmem, ⟨10, _⟩ => ⟨S512x1024, .bf16⟩
  | .local _ .smem, ⟨0, _⟩ => ⟨S80, .i32⟩
  | .local _ .smem, ⟨1, _⟩ => ⟨S80, .i32⟩
  | .local _ .smem, ⟨2, _⟩ => ⟨S80, .i32⟩
  | .local _ .smem, ⟨3, _⟩ => ⟨S1, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_v5 : Ref sig .tc := ⟨.hbm, 24, rfl⟩
abbrev main_call1_v6 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_c_3 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v10 : Ref sig .tc := ⟨.hbm, 36, rfl⟩
abbrev main_arg0 : Ref sig .tc := ⟨.smem, 0, rfl⟩
abbrev main_v5 : Ref sig .tc := ⟨.smem, 1, rfl⟩
abbrev main_v9 : Ref sig .tc := ⟨.smem, 2, rfl⟩
abbrev main_arg1 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![80], ![false]⟩

abbrev pre0 : Pipeline.Prefetch sig := ⟨4, ![main_arg0.idx, main_v5.idx, main_v9.idx, main_arg1.idx], fun | 0 => main_arg0.names | 1 => main_v5.names | 2 => main_v9.names | 3 => main_arg1.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let c79_i32 : BitVec 32 := 79#32
  let v1 : BitVec 32 := Scalar.minsi v0 c79_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off3 (v30 : BitVec 32) : Fin 3 → Nat :=
  let v31 : Index := Scalar.indexCast v30
  let c0_14 : Index := 0#32
  let c0_15 : Index := 0#32
  ![v31.toNat, 0, 0]

def k0_chk1 (i : grid0.Coords) (v30 : BitVec 32) : Prop :=
  (∀ (k0_h1 : k0_cond1 i = 1#1), ∀ a, (k0_off3 v30) a + S1x1024x1024.size a ≤ S2x1024x1024.size a) ∧
  (∀ (k0_h1 : k0_cond1 i = 1#1), ∀ (hinb : ∀ a, (k0_off3 v30) a + S1x1024x1024.size a ≤ S2x1024x1024.size a), (Rect.unit (s := S2x1024x1024) (k0_off3 v30) S1x1024x1024.size hinb).PackedRows (EltTy.packing .bf16))
theorem k0_off3_inb : ∀ (i : grid0.Coords) (v30 : BitVec 32) (k0_hw1 : k0_chk1 i v30), ∀ (k0_h1 : k0_cond1 i = 1#1), ∀ a, (k0_off3 v30) a + S1x1024x1024.size a ≤ S2x1024x1024.size a := fun i v30 k0_hw1 k0_h1 => k0_hw1.1 k0_h1
theorem k0_off3_packedbf16 : ∀ (i : grid0.Coords) (v30 : BitVec 32) (k0_hw1 : k0_chk1 i v30), ∀ (k0_h1 : k0_cond1 i = 1#1), (Rect.unit (s := S2x1024x1024) (k0_off3 v30) S1x1024x1024.size (k0_off3_inb i v30 k0_hw1 k0_h1)).PackedRows (EltTy.packing .bf16) := fun i v30 k0_hw1 k0_h1 => k0_hw1.2 k0_h1 (k0_off3_inb i v30 k0_hw1 k0_h1)

def k0_off4 (i : grid0.Coords) : Fin 1 → Nat :=
  let arg0 : BitVec 32 := BitVec.ofNat 32 (i 0).val
  let c1_i32 : BitVec 32 := 1#32
  let v2 : BitVec 32 := Scalar.addi arg0 c1_i32
  let c79_i32 : BitVec 32 := 79#32
  let v3 : BitVec 32 := Scalar.minsi v2 c79_i32
  let v30 : Index := Scalar.indexCast v3
  ![v30.toNat]
def k0_off5 (v31 : BitVec 32) : Fin 3 → Nat :=
  let v32 : Index := Scalar.indexCast v31
  let c0_13 : Index := 0#32
  let c0_14 : Index := 0#32
  ![v32.toNat, 0, 0]
def k0_cond2 (i : grid0.Coords) (v8 : BitVec 32) (v11 : BitVec 32) : BitVec 1 :=
  let arg0 : BitVec 32 := BitVec.ofNat 32 (i 0).val
  let c1_i32_1 : BitVec 32 := 1#32
  let v7 : BitVec 32 := Scalar.addi arg0 c1_i32_1
  let v9 : BitVec 1 := Scalar.cmpi .slt v7 v8
  let c1_i32_3 : BitVec 32 := 1#32
  let v12 : BitVec 1 := Scalar.cmpi .eq v11 c1_i32_3
  let v13 : BitVec 1 := Scalar.andi v9 v12
  let v14 : BitVec 32 := Scalar.extui v13
  let c0_i32_4 : BitVec 32 := 0#32
  let v15 : BitVec 1 := Scalar.cmpi .ne v14 c0_i32_4
  v15

def k0_chk2 (i : grid0.Coords) (v8 : BitVec 32) (v11 : BitVec 32) (v31 : BitVec 32) : Prop :=
  (∀ (k0_h2 : k0_cond2 i v8 v11 = 1#1), ∀ a, (k0_off5 v31) a + S1x1024x1024.size a ≤ S2x1024x1024.size a) ∧
  (∀ (k0_h2 : k0_cond2 i v8 v11 = 1#1), ∀ (hinb : ∀ a, (k0_off5 v31) a + S1x1024x1024.size a ≤ S2x1024x1024.size a), (Rect.unit (s := S2x1024x1024) (k0_off5 v31) S1x1024x1024.size hinb).PackedRows (EltTy.packing .bf16))
theorem k0_off5_inb : ∀ (i : grid0.Coords) (v8 : BitVec 32) (v11 : BitVec 32) (v31 : BitVec 32) (k0_hw2 : k0_chk2 i v8 v11 v31), ∀ (k0_h2 : k0_cond2 i v8 v11 = 1#1), ∀ a, (k0_off5 v31) a + S1x1024x1024.size a ≤ S2x1024x1024.size a := fun i v8 v11 v31 k0_hw2 k0_h2 => k0_hw2.1 k0_h2
theorem k0_off5_packedbf16 : ∀ (i : grid0.Coords) (v8 : BitVec 32) (v11 : BitVec 32) (v31 : BitVec 32) (k0_hw2 : k0_chk2 i v8 v11 v31), ∀ (k0_h2 : k0_cond2 i v8 v11 = 1#1), (Rect.unit (s := S2x1024x1024) (k0_off5 v31) S1x1024x1024.size (k0_off5_inb i v8 v11 v31 k0_hw2 k0_h2)).PackedRows (EltTy.packing .bf16) := fun i v8 v11 v31 k0_hw2 k0_h2 => k0_hw2.2 k0_h2 (k0_off5_inb i v8 v11 v31 k0_hw2 k0_h2)

def k0_off6 (i : grid0.Coords) : Fin 1 → Nat :=
  let arg0 : BitVec 32 := BitVec.ofNat 32 (i 0).val
  let v16 : Index := Scalar.indexCast arg0
  ![v16.toNat]
def k0_off7 (i : grid0.Coords) : Fin 1 → Nat :=
  let arg0 : BitVec 32 := BitVec.ofNat 32 (i 0).val
  let v37 : Index := Scalar.indexCast arg0
  ![v37.toNat]
def k0_off8 (v38 : BitVec 32) : Fin 3 → Nat :=
  let v39 : Index := Scalar.indexCast v38
  let c0_18 : Index := 0#32
  let c0_19 : Index := 0#32
  ![v39.toNat, 0, 0]
def k0_cond4 (i : grid0.Coords) (v0 : BitVec 32) : BitVec 1 :=
  let arg0 : BitVec 32 := BitVec.ofNat 32 (i 0).val
  let v1 : BitVec 1 := Scalar.cmpi .slt arg0 v0
  let v22 : BitVec 32 := Scalar.extui v1
  let c0_i32_7 : BitVec 32 := 0#32
  let v23 : BitVec 1 := Scalar.cmpi .ne v22 c0_i32_7
  v23

def k0_chk3 (i : grid0.Coords) (v0 : BitVec 32) (v38 : BitVec 32) : Prop :=
  (∀ (k0_h4 : k0_cond4 i v0 = 1#1), ∀ a, (k0_off8 v38) a + S1x1024x1024.size a ≤ S2x1024x1024.size a)
theorem k0_off8_inb : ∀ (i : grid0.Coords) (v0 : BitVec 32) (v38 : BitVec 32) (k0_hw3 : k0_chk3 i v0 v38), ∀ (k0_h4 : k0_cond4 i v0 = 1#1), ∀ a, (k0_off8 v38) a + S1x1024x1024.size a ≤ S2x1024x1024.size a := fun i v0 v38 k0_hw3 k0_h4 => k0_hw3 k0_h4

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v24 : BitVec 1 := Scalar.xori v1 v_true
  let v25 : BitVec 32 := Scalar.extui v24
  let c0_i32_8 : BitVec 32 := 0#32
  let v26 : BitVec 1 := Scalar.cmpi .ne v25 c0_i32_8
  v26

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let v1 : BitVec 32 := Scalar.minsi arg0 v0
  let c0_i32 : BitVec 32 := 0#32
  let c0_i32_0 : BitVec 32 := 0#32
  ![v1.toNat, c0_i32.toNat]

def cc0_transform_1 (inb_S80_S1_0 : ∀ a, (![0] : Fin 1 → Nat) a + S1.size a ≤ S80.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S80) ![0] S1.size inb_S80_S1_0) numel1_S1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi arg0 c1_i32
  let c79_i32 : BitVec 32 := 79#32
  let v1 : BitVec 32 := Scalar.minsi v0 c79_i32
  let v2 : Index := Scalar.indexCast v1
  let v3 : BitVec 32 := pf.at 0 (Rect.unit (s := S80) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (k0_off2_inb : ∀ i : grid0.Coords, ∀ a, (k0_off2 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S80 : Shape := ⟨1, ![80]⟩
abbrev S1 : Shape := ⟨1, ![1]⟩
abbrev S327680x128 : Shape := ⟨2, ![327680, 128]⟩
abbrev S2x16x1024x1024 : Shape := ⟨4, ![2, 16, 1024, 1024]⟩
abbrev S2x16x512x1024 : Shape := ⟨4, ![2, 16, 512, 1024]⟩
abbrev S1x16x1024x1024 : Shape := ⟨4, ![1, 16, 1024, 1024]⟩
abbrev S16x1024x1024 : Shape := ⟨3, ![16, 1024, 1024]⟩
abbrev S1x16x512x1024 : Shape := ⟨4, ![1, 16, 512, 1024]⟩
abbrev S16x512x1024 : Shape := ⟨3, ![16, 512, 1024]⟩
abbrev S40960x1024 : Shape := ⟨2, ![40960, 1024]⟩
abbrev S80x512 : Shape := ⟨2, ![80, 512]⟩
abbrev S40960 : Shape := ⟨1, ![40960]⟩
abbrev S40960x1 : Shape := ⟨2, ![40960, 1]⟩
abbrev S1x16 : Shape := ⟨2, ![1, 16]⟩
abbrev S40960x16 : Shape := ⟨2, ![40960, 16]⟩
abbrev S_ : Shape := ⟨0, ![]⟩
abbrev S1x1024x1024 : Shape := ⟨3, ![1, 1024, 1024]⟩
abbrev S1024x1024 : Shape := ⟨2, ![1024, 1024]⟩
abbrev S40960x512 : Shape := ⟨2, ![40960, 512]⟩
abbrev S1x512x1024 : Shape := ⟨3, ![1, 512, 1024]⟩
abbrev S512x1024 : Shape := ⟨2, ![512, 1024]⟩

abbrev nBuf : Space → Nat
  | .hbm => 383
  | .vmem => 0
  | .smem => 0
  | _ => 0

abbrev hbmTy0_0 (i : Nat) : BufTy := match i % 128 with
  | 0 => ⟨S80, .i32⟩
  | 1 => ⟨S1, .i32⟩
  | 2 => ⟨S327680x128, .f32⟩
  | 3 => ⟨S2x16x1024x1024, .f32⟩
  | 4 => ⟨S2x16x512x1024, .f32⟩
  | 5 => ⟨S1x16x1024x1024, .f32⟩
  | 6 => ⟨S16x1024x1024, .f32⟩
  | 7 => ⟨S1x16x512x1024, .f32⟩
  | 8 => ⟨S16x512x1024, .f32⟩
  | 9 => ⟨S40960x1024, .f32⟩
  | 10 => ⟨S80, .i32⟩
  | 11 => ⟨S80x512, .i32⟩
  | 12 => ⟨S40960, .i32⟩
  | 13 => ⟨S80x512, .i32⟩
  | 14 => ⟨S40960, .i32⟩
  | 15 => ⟨S40960x1, .i32⟩
  | 16 => ⟨S1x16, .i32⟩
  | 17 => ⟨S40960x16, .i32⟩
  | 18 => ⟨S40960x16, .i32⟩
  | 19 => ⟨S40960x16, .i1⟩
  | 20 => ⟨S40960x16, .f32⟩
  | 21 => ⟨S_, .i32⟩
  | 22 => ⟨S40960, .i32⟩
  | 23 => ⟨S40960, .i1⟩
  | 24 => ⟨S40960, .f32⟩
  | 25 => ⟨S40960x1, .f32⟩
  | 26 => ⟨S40960x16, .f32⟩
  | 27 => ⟨S40960x16, .f32⟩
  | 28 => ⟨S_, .f32⟩
  | 29 => ⟨S40960x1024, .f32⟩
  | 30 => ⟨S1x1024x1024, .f32⟩
  | 31 => ⟨S1024x1024, .f32⟩
  | 32 => ⟨S40960x1024, .f32⟩
  | 33 => ⟨S40960x512, .f32⟩
  | 34 => ⟨S40960x512, .f32⟩
  | 35 => ⟨S40960x1, .f32⟩
  | 36 => ⟨S40960x512, .f32⟩
  | 37 => ⟨S40960x512, .f32⟩
  | 38 => ⟨S_, .f32⟩
  | 39 => ⟨S40960x512, .f32⟩
  | 40 => ⟨S40960x512, .f32⟩
  | 41 => ⟨S_, .f32⟩
  | 42 => ⟨S40960x512, .f32⟩
  | 43 => ⟨S40960x512, .f32⟩
  | 44 => ⟨S40960x512, .f32⟩
  | 45 => ⟨S40960x512, .f32⟩
  | 46 => ⟨S1x512x1024, .f32⟩
  | 47 => ⟨S512x1024, .f32⟩
  | 48 => ⟨S40960x1024, .f32⟩
  | 49 => ⟨S40960x1024, .f32⟩
  | 50 => ⟨S40960x1024, .f32⟩
  | 51 => ⟨S40960x1024, .f32⟩
  | 52 => ⟨S1x1024x1024, .f32⟩
  | 53 => ⟨S1024x1024, .f32⟩
  | 54 => ⟨S40960x1024, .f32⟩
  | 55 => ⟨S40960x512, .f32⟩
  | 56 => ⟨S40960x512, .f32⟩
  | 57 => ⟨S40960x1, .f32⟩
  | 58 => ⟨S40960x512, .f32⟩
  | 59 => ⟨S40960x512, .f32⟩
  | 60 => ⟨S_, .f32⟩
  | 61 => ⟨S40960x512, .f32⟩
  | 62 => ⟨S40960x512, .f32⟩
  | 63 => ⟨S_, .f32⟩
  | 64 => ⟨S40960x512, .f32⟩
  | 65 => ⟨S40960x512, .f32⟩
  | 66 => ⟨S40960x512, .f32⟩
  | 67 => ⟨S40960x512, .f32⟩
  | 68 => ⟨S1x512x1024, .f32⟩
  | 69 => ⟨S512x1024, .f32⟩
  | 70 => ⟨S40960x1024, .f32⟩
  | 71 => ⟨S40960x1024, .f32⟩
  | 72 => ⟨S40960x1024, .f32⟩
  | 73 => ⟨S40960x1024, .f32⟩
  | 74 => ⟨S1x1024x1024, .f32⟩
  | 75 => ⟨S1024x1024, .f32⟩
  | 76 => ⟨S40960x1024, .f32⟩
  | 77 => ⟨S40960x512, .f32⟩
  | 78 => ⟨S40960x512, .f32⟩
  | 79 => ⟨S40960x1, .f32⟩
  | 80 => ⟨S40960x512, .f32⟩
  | 81 => ⟨S40960x512, .f32⟩
  | 82 => ⟨S_, .f32⟩
  | 83 => ⟨S40960x512, .f32⟩
  | 84 => ⟨S40960x512, .f32⟩
  | 85 => ⟨S_, .f32⟩
  | 86 => ⟨S40960x512, .f32⟩
  | 87 => ⟨S40960x512, .f32⟩
  | 88 => ⟨S40960x512, .f32⟩
  | 89 => ⟨S40960x512, .f32⟩
  | 90 => ⟨S1x512x1024, .f32⟩
  | 91 => ⟨S512x1024, .f32⟩
  | 92 => ⟨S40960x1024, .f32⟩
  | 93 => ⟨S40960x1024, .f32⟩
  | 94 => ⟨S40960x1024, .f32⟩
  | 95 => ⟨S40960x1024, .f32⟩
  | 96 => ⟨S1x1024x1024, .f32⟩
  | 97 => ⟨S1024x1024, .f32⟩
  | 98 => ⟨S40960x1024, .f32⟩
  | 99 => ⟨S40960x512, .f32⟩
  | 100 => ⟨S40960x512, .f32⟩
  | 101 => ⟨S40960x1, .f32⟩
  | 102 => ⟨S40960x512, .f32⟩
  | 103 => ⟨S40960x512, .f32⟩
  | 104 => ⟨S_, .f32⟩
  | 105 => ⟨S40960x512, .f32⟩
  | 106 => ⟨S40960x512, .f32⟩
  | 107 => ⟨S_, .f32⟩
  | 108 => ⟨S40960x512, .f32⟩
  | 109 => ⟨S40960x512, .f32⟩
  | 110 => ⟨S40960x512, .f32⟩
  | 111 => ⟨S40960x512, .f32⟩
  | 112 => ⟨S1x512x1024, .f32⟩
  | 113 => ⟨S512x1024, .f32⟩
  | 114 => ⟨S40960x1024, .f32⟩
  | 115 => ⟨S40960x1024, .f32⟩
  | 116 => ⟨S40960x1024, .f32⟩
  | 117 => ⟨S40960x1024, .f32⟩
  | 118 => ⟨S1x1024x1024, .f32⟩
  | 119 => ⟨S1024x1024, .f32⟩
  | 120 => ⟨S40960x1024, .f32⟩
  | 121 => ⟨S40960x512, .f32⟩
  | 122 => ⟨S40960x512, .f32⟩
  | 123 => ⟨S40960x1, .f32⟩
  | 124 => ⟨S40960x512, .f32⟩
  | 125 => ⟨S40960x512, .f32⟩
  | 126 => ⟨S_, .f32⟩
  | 127 => ⟨S40960x512, .f32⟩
  | _ => ⟨S80, .i32⟩

abbrev hbmTy0_1 (i : Nat) : BufTy := match i % 128 with
  | 0 => ⟨S40960x512, .f32⟩
  | 1 => ⟨S_, .f32⟩
  | 2 => ⟨S40960x512, .f32⟩
  | 3 => ⟨S40960x512, .f32⟩
  | 4 => ⟨S40960x512, .f32⟩
  | 5 => ⟨S40960x512, .f32⟩
  | 6 => ⟨S1x512x1024, .f32⟩
  | 7 => ⟨S512x1024, .f32⟩
  | 8 => ⟨S40960x1024, .f32⟩
  | 9 => ⟨S40960x1024, .f32⟩
  | 10 => ⟨S40960x1024, .f32⟩
  | 11 => ⟨S40960x1024, .f32⟩
  | 12 => ⟨S1x1024x1024, .f32⟩
  | 13 => ⟨S1024x1024, .f32⟩
  | 14 => ⟨S40960x1024, .f32⟩
  | 15 => ⟨S40960x512, .f32⟩
  | 16 => ⟨S40960x512, .f32⟩
  | 17 => ⟨S40960x1, .f32⟩
  | 18 => ⟨S40960x512, .f32⟩
  | 19 => ⟨S40960x512, .f32⟩
  | 20 => ⟨S_, .f32⟩
  | 21 => ⟨S40960x512, .f32⟩
  | 22 => ⟨S40960x512, .f32⟩
  | 23 => ⟨S_, .f32⟩
  | 24 => ⟨S40960x512, .f32⟩
  | 25 => ⟨S40960x512, .f32⟩
  | 26 => ⟨S40960x512, .f32⟩
  | 27 => ⟨S40960x512, .f32⟩
  | 28 => ⟨S1x512x1024, .f32⟩
  | 29 => ⟨S512x1024, .f32⟩
  | 30 => ⟨S40960x1024, .f32⟩
  | 31 => ⟨S40960x1024, .f32⟩
  | 32 => ⟨S40960x1024, .f32⟩
  | 33 => ⟨S40960x1024, .f32⟩
  | 34 => ⟨S1x1024x1024, .f32⟩
  | 35 => ⟨S1024x1024, .f32⟩
  | 36 => ⟨S40960x1024, .f32⟩
  | 37 => ⟨S40960x512, .f32⟩
  | 38 => ⟨S40960x512, .f32⟩
  | 39 => ⟨S40960x1, .f32⟩
  | 40 => ⟨S40960x512, .f32⟩
  | 41 => ⟨S40960x512, .f32⟩
  | 42 => ⟨S_, .f32⟩
  | 43 => ⟨S40960x512, .f32⟩
  | 44 => ⟨S40960x512, .f32⟩
  | 45 => ⟨S_, .f32⟩
  | 46 => ⟨S40960x512, .f32⟩
  | 47 => ⟨S40960x512, .f32⟩
  | 48 => ⟨S40960x512, .f32⟩
  | 49 => ⟨S40960x512, .f32⟩
  | 50 => ⟨S1x512x1024, .f32⟩
  | 51 => ⟨S512x1024, .f32⟩
  | 52 => ⟨S40960x1024, .f32⟩
  | 53 => ⟨S40960x1024, .f32⟩
  | 54 => ⟨S40960x1024, .f32⟩
  | 55 => ⟨S40960x1024, .f32⟩
  | 56 => ⟨S1x1024x1024, .f32⟩
  | 57 => ⟨S1024x1024, .f32⟩
  | 58 => ⟨S40960x1024, .f32⟩
  | 59 => ⟨S40960x512, .f32⟩
  | 60 => ⟨S40960x512, .f32⟩
  | 61 => ⟨S40960x1, .f32⟩
  | 62 => ⟨S40960x512, .f32⟩
  | 63 => ⟨S40960x512, .f32⟩
  | 64 => ⟨S_, .f32⟩
  | 65 => ⟨S40960x512, .f32⟩
  | 66 => ⟨S40960x512, .f32⟩
  | 67 => ⟨S_, .f32⟩
  | 68 => ⟨S40960x512, .f32⟩
  | 69 => ⟨S40960x512, .f32⟩
  | 70 => ⟨S40960x512, .f32⟩
  | 71 => ⟨S40960x512, .f32⟩
  | 72 => ⟨S1x512x1024, .f32⟩
  | 73 => ⟨S512x1024, .f32⟩
  | 74 => ⟨S40960x1024, .f32⟩
  | 75 => ⟨S40960x1024, .f32⟩
  | 76 => ⟨S40960x1024, .f32⟩
  | 77 => ⟨S40960x1024, .f32⟩
  | 78 => ⟨S1x1024x1024, .f32⟩
  | 79 => ⟨S1024x1024, .f32⟩
  | 80 => ⟨S40960x1024, .f32⟩
  | 81 => ⟨S40960x512, .f32⟩
  | 82 => ⟨S40960x512, .f32⟩
  | 83 => ⟨S40960x1, .f32⟩
  | 84 => ⟨S40960x512, .f32⟩
  | 85 => ⟨S40960x512, .f32⟩
  | 86 => ⟨S_, .f32⟩
  | 87 => ⟨S40960x512, .f32⟩
  | 88 => ⟨S40960x512, .f32⟩
  | 89 => ⟨S_, .f32⟩
  | 90 => ⟨S40960x512, .f32⟩
  | 91 => ⟨S40960x512, .f32⟩
  | 92 => ⟨S40960x512, .f32⟩
  | 93 => ⟨S40960x512, .f32⟩
  | 94 => ⟨S1x512x1024, .f32⟩
  | 95 => ⟨S512x1024, .f32⟩
  | 96 => ⟨S40960x1024, .f32⟩
  | 97 => ⟨S40960x1024, .f32⟩
  | 98 => ⟨S40960x1024, .f32⟩
  | 99 => ⟨S40960x1024, .f32⟩
  | 100 => ⟨S1x1024x1024, .f32⟩
  | 101 => ⟨S1024x1024, .f32⟩
  | 102 => ⟨S40960x1024, .f32⟩
  | 103 => ⟨S40960x512, .f32⟩
  | 104 => ⟨S40960x512, .f32⟩
  | 105 => ⟨S40960x1, .f32⟩
  | 106 => ⟨S40960x512, .f32⟩
  | 107 => ⟨S40960x512, .f32⟩
  | 108 => ⟨S_, .f32⟩
  | 109 => ⟨S40960x512, .f32⟩
  | 110 => ⟨S40960x512, .f32⟩
  | 111 => ⟨S_, .f32⟩
  | 112 => ⟨S40960x512, .f32⟩
  | 113 => ⟨S40960x512, .f32⟩
  | 114 => ⟨S40960x512, .f32⟩
  | 115 => ⟨S40960x512, .f32⟩
  | 116 => ⟨S1x512x1024, .f32⟩
  | 117 => ⟨S512x1024, .f32⟩
  | 118 => ⟨S40960x1024, .f32⟩
  | 119 => ⟨S40960x1024, .f32⟩
  | 120 => ⟨S40960x1024, .f32⟩
  | 121 => ⟨S40960x1024, .f32⟩
  | 122 => ⟨S1x1024x1024, .f32⟩
  | 123 => ⟨S1024x1024, .f32⟩
  | 124 => ⟨S40960x1024, .f32⟩
  | 125 => ⟨S40960x512, .f32⟩
  | 126 => ⟨S40960x512, .f32⟩
  | 127 => ⟨S40960x1, .f32⟩
  | _ => ⟨S80, .i32⟩

abbrev hbmTy0_2 (i : Nat) : BufTy := match i % 128 with
  | 0 => ⟨S40960x512, .f32⟩
  | 1 => ⟨S40960x512, .f32⟩
  | 2 => ⟨S_, .f32⟩
  | 3 => ⟨S40960x512, .f32⟩
  | 4 => ⟨S40960x512, .f32⟩
  | 5 => ⟨S_, .f32⟩
  | 6 => ⟨S40960x512, .f32⟩
  | 7 => ⟨S40960x512, .f32⟩
  | 8 => ⟨S40960x512, .f32⟩
  | 9 => ⟨S40960x512, .f32⟩
  | 10 => ⟨S1x512x1024, .f32⟩
  | 11 => ⟨S512x1024, .f32⟩
  | 12 => ⟨S40960x1024, .f32⟩
  | 13 => ⟨S40960x1024, .f32⟩
  | 14 => ⟨S40960x1024, .f32⟩
  | 15 => ⟨S40960x1024, .f32⟩
  | 16 => ⟨S1x1024x1024, .f32⟩
  | 17 => ⟨S1024x1024, .f32⟩
  | 18 => ⟨S40960x1024, .f32⟩
  | 19 => ⟨S40960x512, .f32⟩
  | 20 => ⟨S40960x512, .f32⟩
  | 21 => ⟨S40960x1, .f32⟩
  | 22 => ⟨S40960x512, .f32⟩
  | 23 => ⟨S40960x512, .f32⟩
  | 24 => ⟨S_, .f32⟩
  | 25 => ⟨S40960x512, .f32⟩
  | 26 => ⟨S40960x512, .f32⟩
  | 27 => ⟨S_, .f32⟩
  | 28 => ⟨S40960x512, .f32⟩
  | 29 => ⟨S40960x512, .f32⟩
  | 30 => ⟨S40960x512, .f32⟩
  | 31 => ⟨S40960x512, .f32⟩
  | 32 => ⟨S1x512x1024, .f32⟩
  | 33 => ⟨S512x1024, .f32⟩
  | 34 => ⟨S40960x1024, .f32⟩
  | 35 => ⟨S40960x1024, .f32⟩
  | 36 => ⟨S40960x1024, .f32⟩
  | 37 => ⟨S40960x1024, .f32⟩
  | 38 => ⟨S1x1024x1024, .f32⟩
  | 39 => ⟨S1024x1024, .f32⟩
  | 40 => ⟨S40960x1024, .f32⟩
  | 41 => ⟨S40960x512, .f32⟩
  | 42 => ⟨S40960x512, .f32⟩
  | 43 => ⟨S40960x1, .f32⟩
  | 44 => ⟨S40960x512, .f32⟩
  | 45 => ⟨S40960x512, .f32⟩
  | 46 => ⟨S_, .f32⟩
  | 47 => ⟨S40960x512, .f32⟩
  | 48 => ⟨S40960x512, .f32⟩
  | 49 => ⟨S_, .f32⟩
  | 50 => ⟨S40960x512, .f32⟩
  | 51 => ⟨S40960x512, .f32⟩
  | 52 => ⟨S40960x512, .f32⟩
  | 53 => ⟨S40960x512, .f32⟩
  | 54 => ⟨S1x512x1024, .f32⟩
  | 55 => ⟨S512x1024, .f32⟩
  | 56 => ⟨S40960x1024, .f32⟩
  | 57 => ⟨S40960x1024, .f32⟩
  | 58 => ⟨S40960x1024, .f32⟩
  | 59 => ⟨S40960x1024, .f32⟩
  | 60 => ⟨S1x1024x1024, .f32⟩
  | 61 => ⟨S1024x1024, .f32⟩
  | 62 => ⟨S40960x1024, .f32⟩
  | 63 => ⟨S40960x512, .f32⟩
  | 64 => ⟨S40960x512, .f32⟩
  | 65 => ⟨S40960x1, .f32⟩
  | 66 => ⟨S40960x512, .f32⟩
  | 67 => ⟨S40960x512, .f32⟩
  | 68 => ⟨S_, .f32⟩
  | 69 => ⟨S40960x512, .f32⟩
  | 70 => ⟨S40960x512, .f32⟩
  | 71 => ⟨S_, .f32⟩
  | 72 => ⟨S40960x512, .f32⟩
  | 73 => ⟨S40960x512, .f32⟩
  | 74 => ⟨S40960x512, .f32⟩
  | 75 => ⟨S40960x512, .f32⟩
  | 76 => ⟨S1x512x1024, .f32⟩
  | 77 => ⟨S512x1024, .f32⟩
  | 78 => ⟨S40960x1024, .f32⟩
  | 79 => ⟨S40960x1024, .f32⟩
  | 80 => ⟨S40960x1024, .f32⟩
  | 81 => ⟨S40960x1024, .f32⟩
  | 82 => ⟨S1x1024x1024, .f32⟩
  | 83 => ⟨S1024x1024, .f32⟩
  | 84 => ⟨S40960x1024, .f32⟩
  | 85 => ⟨S40960x512, .f32⟩
  | 86 => ⟨S40960x512, .f32⟩
  | 87 => ⟨S40960x1, .f32⟩
  | 88 => ⟨S40960x512, .f32⟩
  | 89 => ⟨S40960x512, .f32⟩
  | 90 => ⟨S_, .f32⟩
  | 91 => ⟨S40960x512, .f32⟩
  | 92 => ⟨S40960x512, .f32⟩
  | 93 => ⟨S_, .f32⟩
  | 94 => ⟨S40960x512, .f32⟩
  | 95 => ⟨S40960x512, .f32⟩
  | 96 => ⟨S40960x512, .f32⟩
  | 97 => ⟨S40960x512, .f32⟩
  | 98 => ⟨S1x512x1024, .f32⟩
  | 99 => ⟨S512x1024, .f32⟩
  | 100 => ⟨S40960x1024, .f32⟩
  | 101 => ⟨S40960x1024, .f32⟩
  | 102 => ⟨S40960x1024, .f32⟩
  | 103 => ⟨S40960x1024, .f32⟩
  | 104 => ⟨S1x1024x1024, .f32⟩
  | 105 => ⟨S1024x1024, .f32⟩
  | 106 => ⟨S40960x1024, .f32⟩
  | 107 => ⟨S40960x512, .f32⟩
  | 108 => ⟨S40960x512, .f32⟩
  | 109 => ⟨S40960x1, .f32⟩
  | 110 => ⟨S40960x512, .f32⟩
  | 111 => ⟨S40960x512, .f32⟩
  | 112 => ⟨S_, .f32⟩
  | 113 => ⟨S40960x512, .f32⟩
  | 114 => ⟨S40960x512, .f32⟩
  | 115 => ⟨S_, .f32⟩
  | 116 => ⟨S40960x512, .f32⟩
  | 117 => ⟨S40960x512, .f32⟩
  | 118 => ⟨S40960x512, .f32⟩
  | 119 => ⟨S40960x512, .f32⟩
  | 120 => ⟨S1x512x1024, .f32⟩
  | 121 => ⟨S512x1024, .f32⟩
  | 122 => ⟨S40960x1024, .f32⟩
  | 123 => ⟨S40960x1024, .f32⟩
  | 124 => ⟨S40960x1024, .f32⟩
  | 125 => ⟨S40960x1024, .f32⟩
  | 126 => ⟨S327680x128, .f32⟩
  | _ => ⟨S80, .i32⟩

abbrev hbmTy (i : Nat) : BufTy := match i / 128 with
  | 0 => hbmTy0_0 i
  | 1 => hbmTy0_1 i
  | 2 => hbmTy0_2 i
  | _ => ⟨S80, .i32⟩

abbrev bufTy : (tb : Table) → Fin (tcTables nBuf tb) → BufTy
  | .hbm, ⟨i, _⟩ => hbmTy i
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_call6_v0 : Ref sig .tc := ⟨.hbm, 146, rfl⟩
abbrev main_call6_v1 : Ref sig .tc := ⟨.hbm, 147, rfl⟩
abbrev main_call6_cst : Ref sig .tc := ⟨.hbm, 148, rfl⟩
abbrev main_call6_v2 : Ref sig .tc := ⟨.hbm, 149, rfl⟩
abbrev main_call6_v3 : Ref sig .tc := ⟨.hbm, 150, rfl⟩
abbrev main_call6_cst_0 : Ref sig .tc := ⟨.hbm, 151, rfl⟩
abbrev main_call6_v4 : Ref sig .tc := ⟨.hbm, 152, rfl⟩
abbrev main_call6_v5 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_call7_v0 : Ref sig .tc := ⟨.hbm, 168, rfl⟩
abbrev main_call7_v1 : Ref sig .tc := ⟨.hbm, 169, rfl⟩
abbrev main_call7_cst : Ref sig .tc := ⟨.hbm, 170, rfl⟩
abbrev main_call7_v2 : Ref sig .tc := ⟨.hbm, 171, rfl⟩
abbrev main_call7_v3 : Ref sig .tc := ⟨.hbm, 172, rfl⟩
abbrev main_call7_cst_0 : Ref sig .tc := ⟨.hbm, 173, rfl⟩
abbrev main_call7_v4 : Ref sig .tc := ⟨.hbm, 174, rfl⟩
abbrev main_call7_v5 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_call9_v0 : Ref sig .tc := ⟨.hbm, 212, rfl⟩
abbrev main_call9_v1 : Ref sig .tc := ⟨.hbm, 213, rfl⟩
abbrev main_call9_cst : Ref sig .tc := ⟨.hbm, 214, rfl⟩
abbrev main_call9_v2 : Ref sig .tc := ⟨.hbm, 215, rfl⟩
abbrev main_call9_v3 : Ref sig .tc := ⟨.hbm, 216, rfl⟩
abbrev main_call9_cst_0 : Ref sig .tc := ⟨.hbm, 217, rfl⟩
abbrev main_call9_v4 : Ref sig .tc := ⟨.hbm, 218, rfl⟩
abbrev main_call9_v5 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_call10_v0 : Ref sig .tc := ⟨.hbm, 234, rfl⟩
abbrev main_call10_v1 : Ref sig .tc := ⟨.hbm, 235, rfl⟩
abbrev main_call10_cst : Ref sig .tc := ⟨.hbm, 236, rfl⟩
abbrev main_call10_v2 : Ref sig .tc := ⟨.hbm, 237, rfl⟩
abbrev main_call10_v3 : Ref sig .tc := ⟨.hbm, 238, rfl⟩
abbrev main_call10_cst_0 : Ref sig .tc := ⟨.hbm, 239, rfl⟩
abbrev main_call10_v4 : Ref sig .tc := ⟨.hbm, 240, rfl⟩
abbrev main_call10_v5 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_call11_v0 : Ref sig .tc := ⟨.hbm, 256, rfl⟩
abbrev main_call11_v1 : Ref sig .tc := ⟨.hbm, 257, rfl⟩
abbrev main_call11_cst : Ref sig .tc := ⟨.hbm, 258, rfl⟩
abbrev main_call11_v2 : Ref sig .tc := ⟨.hbm, 259, rfl⟩
abbrev main_call11_v3 : Ref sig .tc := ⟨.hbm, 260, rfl⟩
abbrev main_call11_cst_0 : Ref sig .tc := ⟨.hbm, 261, rfl⟩
abbrev main_call11_v4 : Ref sig .tc := ⟨.hbm, 262, rfl⟩
abbrev main_call11_v5 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_call12_v0 : Ref sig .tc := ⟨.hbm, 278, rfl⟩
abbrev main_call12_v1 : Ref sig .tc := ⟨.hbm, 279, rfl⟩
abbrev main_call12_cst : Ref sig .tc := ⟨.hbm, 280, rfl⟩
abbrev main_call12_v2 : Ref sig .tc := ⟨.hbm, 281, rfl⟩
abbrev main_call12_v3 : Ref sig .tc := ⟨.hbm, 282, rfl⟩
abbrev main_call12_cst_0 : Ref sig .tc := ⟨.hbm, 283, rfl⟩
abbrev main_call12_v4 : Ref sig .tc := ⟨.hbm, 284, rfl⟩
abbrev main_call12_v5 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_call13_v0 : Ref sig .tc := ⟨.hbm, 300, rfl⟩
abbrev main_call13_v1 : Ref sig .tc := ⟨.hbm, 301, rfl⟩
abbrev main_call13_cst : Ref sig .tc := ⟨.hbm, 302, rfl⟩
abbrev main_call13_v2 : Ref sig .tc := ⟨.hbm, 303, rfl⟩
abbrev main_call13_v3 : Ref sig .tc := ⟨.hbm, 304, rfl⟩
abbrev main_call13_cst_0 : Ref sig .tc := ⟨.hbm, 305, rfl⟩
abbrev main_call13_v4 : Ref sig .tc := ⟨.hbm, 306, rfl⟩
abbrev main_call13_v5 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_call14_v0 : Ref sig .tc := ⟨.hbm, 322, rfl⟩
abbrev main_call14_v1 : Ref sig .tc := ⟨.hbm, 323, rfl⟩
abbrev main_call14_cst : Ref sig .tc := ⟨.hbm, 324, rfl⟩
abbrev main_call14_v2 : Ref sig .tc := ⟨.hbm, 325, rfl⟩
abbrev main_call14_v3 : Ref sig .tc := ⟨.hbm, 326, rfl⟩
abbrev main_call14_cst_0 : Ref sig .tc := ⟨.hbm, 327, rfl⟩
abbrev main_call14_v4 : Ref sig .tc := ⟨.hbm, 328, rfl⟩
abbrev main_call14_v5 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_call15_v0 : Ref sig .tc := ⟨.hbm, 344, rfl⟩
abbrev main_call15_v1 : Ref sig .tc := ⟨.hbm, 345, rfl⟩
abbrev main_call15_cst : Ref sig .tc := ⟨.hbm, 346, rfl⟩
abbrev main_call15_v2 : Ref sig .tc := ⟨.hbm, 347, rfl⟩
abbrev main_call15_v3 : Ref sig .tc := ⟨.hbm, 348, rfl⟩
abbrev main_call15_cst_0 : Ref sig .tc := ⟨.hbm, 349, rfl⟩
abbrev main_call15_v4 : Ref sig .tc := ⟨.hbm, 350, rfl⟩
abbrev main_call15_v5 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_call16_v0 : Ref sig .tc := ⟨.hbm, 366, rfl⟩
abbrev main_call16_v1 : Ref sig .tc := ⟨.hbm, 367, rfl⟩
abbrev main_call16_cst : Ref sig .tc := ⟨.hbm, 368, rfl⟩
abbrev main_call16_v2 : Ref sig .tc := ⟨.hbm, 369, rfl⟩
abbrev main_call16_v3 : Ref sig .tc := ⟨.hbm, 370, rfl⟩
abbrev main_call16_cst_0 : Ref sig .tc := ⟨.hbm, 371, rfl⟩
abbrev main_call16_v4 : Ref sig .tc := ⟨.hbm, 372, rfl⟩
abbrev main_call16_v5 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩

abbrev nD : Nat := 1
abbrev τ : Topo := Topo.v7x

variable {F : FTy → Type} [FloatOps F]
-- ==== Kernel3.lean ====
abbrev S80 : Shape := ⟨1, ![80]⟩
abbrev S1 : Shape := ⟨1, ![1]⟩
abbrev S327680x128 : Shape := ⟨2, ![327680, 128]⟩
abbrev S2x16x1024x1024 : Shape := ⟨4, ![2, 16, 1024, 1024]⟩
abbrev S2x16x512x1024 : Shape := ⟨4, ![2, 16, 512, 1024]⟩
abbrev S_ : Shape := ⟨0, ![]⟩
abbrev S79 : Shape := ⟨1, ![79]⟩
abbrev S4096x128 : Shape := ⟨2, ![4096, 128]⟩
abbrev S1x1x1024x1024 : Shape := ⟨4, ![1, 1, 1024, 1024]⟩
abbrev S1x1x512x1024 : Shape := ⟨4, ![1, 1, 512, 1024]⟩
abbrev S2x1024x1024 : Shape := ⟨3, ![2, 1024, 1024]⟩
abbrev S512x1024 : Shape := ⟨2, ![512, 1024]⟩
abbrev S1024x1024 : Shape := ⟨2, ![1024, 1024]⟩
abbrev S1x1024x1024 : Shape := ⟨3, ![1, 1024, 1024]⟩
abbrev S512x128 : Shape := ⟨2, ![512, 128]⟩
abbrev S512x512 : Shape := ⟨2, ![512, 512]⟩

abbrev nBuf : Space → Nat
  | .hbm => 37
  | .vmem => 11
  | .smem => 4
  | _ => 0

abbrev bufTy : (tb : Table) → Fin (tcTables nBuf tb) → BufTy
  | .hbm, ⟨0, _⟩ => ⟨S327680x128, .f32⟩
  | .hbm, ⟨1, _⟩ => ⟨S2x16x1024x1024, .f32⟩
  | .hbm, ⟨2, _⟩ => ⟨S2x16x512x1024, .f32⟩
  | .hbm, ⟨3, _⟩ => ⟨S_, .i32⟩
  | .hbm, ⟨4, _⟩ => ⟨S1, .i32⟩
  | .hbm, ⟨5, _⟩ => ⟨S79, .i32⟩
  | .hbm, ⟨6, _⟩ => ⟨S79, .i32⟩
  | .hbm, ⟨7, _⟩ => ⟨S79, .i1⟩
  | .hbm, ⟨8, _⟩ => ⟨S79, .i32⟩
  | .hbm, ⟨9, _⟩ => ⟨S_, .i32⟩
  | .hbm, ⟨10, _⟩ => ⟨S_, .i32⟩
  | .hbm, ⟨11, _⟩ => ⟨S80, .i32⟩
  | .hbm, ⟨12, _⟩ => ⟨S_, .i32⟩
  | .hbm, ⟨13, _⟩ => ⟨S80, .i32⟩
  | .hbm, ⟨14, _⟩ => ⟨S80, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S80, .i32⟩
  | .hbm, ⟨22, _⟩ => ⟨S80, .i32⟩
  | .hbm, ⟨23, _⟩ => ⟨S_, .i32⟩
  | .hbm, ⟨24, _⟩ => ⟨S80, .i32⟩
  | .hbm, ⟨25, _⟩ => ⟨S80, .i1⟩
  | .hbm, ⟨26, _⟩ => ⟨S_, .i32⟩
  | .hbm, ⟨27, _⟩ => ⟨S80, .i32⟩
  | .hbm, ⟨28, _⟩ => ⟨S80, .i1⟩
  | .hbm, ⟨29, _⟩ => ⟨S_, .i32⟩
  | .hbm, ⟨30, _⟩ => ⟨S_, .i1⟩
  | .hbm, ⟨31, _⟩ => ⟨S80, .i1⟩
  | .hbm, ⟨32, _⟩ => ⟨S80, .i1⟩
  | .hbm, ⟨33, _⟩ => ⟨S80, .i1⟩
  | .hbm, ⟨34, _⟩ => ⟨S80, .i32⟩
  | .hbm, ⟨35, _⟩ => ⟨S80, .i32⟩
  | .hbm, ⟨36, _⟩ => ⟨S327680x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S4096x128, .f32⟩
  | .local _ .vmem, ⟨8, _⟩ => ⟨S4096x128, .f32⟩
  | .local _ .vmem, ⟨9, _⟩ => ⟨S2x1024x1024, .bf16⟩
  | .local _ .vmem, ⟨10, _⟩ => ⟨S512x1024, .bf16⟩
  | .local _ .smem, ⟨0, _⟩ => ⟨S80, .i32⟩
  | .local _ .smem, ⟨1, _⟩ => ⟨S80, .i32⟩
  | .local _ .smem, ⟨2, _⟩ => ⟨S80, .i32⟩
  | .local _ .smem, ⟨3, _⟩ => ⟨S1, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_v5 : Ref sig .tc := ⟨.hbm, 24, rfl⟩
abbrev main_call1_v6 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_c_3 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v10 : Ref sig .tc := ⟨.hbm, 36, rfl⟩
abbrev main_arg0 : Ref sig .tc := ⟨.smem, 0, rfl⟩
abbrev main_v5 : Ref sig .tc := ⟨.smem, 1, rfl⟩
abbrev main_v9 : Ref sig .tc := ⟨.smem, 2, rfl⟩
abbrev main_arg1 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![80], ![false]⟩

abbrev pre0 : Pipeline.Prefetch sig := ⟨4, ![main_arg0.idx, main_v5.idx, main_v9.idx, main_arg1.idx], fun | 0 => main_arg0.names | 1 => main_v5.names | 2 => main_v9.names | 3 => main_arg1.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.addi arg0 c1_i32
  let c79_i32 : BitVec 32 := 79#32
  let v1 : BitVec 32 := Scalar.minsi v0 c79_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off3 (v30 : BitVec 32) : Fin 3 → Nat :=
  let v31 : Index := Scalar.indexCast v30
  let c0_14 : Index := 0#32
  let c0_15 : Index := 0#32
  ![v31.toNat, 0, 0]

def k0_chk1 (i : grid0.Coords) (v30 : BitVec 32) : Prop :=
  (∀ (k0_h1 : k0_cond1 i = 1#1), ∀ a, (k0_off3 v30) a + S1x1024x1024.size a ≤ S2x1024x1024.size a) ∧
  (∀ (k0_h1 : k0_cond1 i = 1#1), ∀ (hinb : ∀ a, (k0_off3 v30) a + S1x1024x1024.size a ≤ S2x1024x1024.size a), (Rect.unit (s := S2x1024x1024) (k0_off3 v30) S1x1024x1024.size hinb).PackedRows (EltTy.packing .bf16))
theorem k0_off3_inb : ∀ (i : grid0.Coords) (v30 : BitVec 32) (k0_hw1 : k0_chk1 i v30), ∀ (k0_h1 : k0_cond1 i = 1#1), ∀ a, (k0_off3 v30) a + S1x1024x1024.size a ≤ S2x1024x1024.size a := fun i v30 k0_hw1 k0_h1 => k0_hw1.1 k0_h1
theorem k0_off3_packedbf16 : ∀ (i : grid0.Coords) (v30 : BitVec 32) (k0_hw1 : k0_chk1 i v30), ∀ (k0_h1 : k0_cond1 i = 1#1), (Rect.unit (s := S2x1024x1024) (k0_off3 v30) S1x1024x1024.size (k0_off3_inb i v30 k0_hw1 k0_h1)).PackedRows (EltTy.packing .bf16) := fun i v30 k0_hw1 k0_h1 => k0_hw1.2 k0_h1 (k0_off3_inb i v30 k0_hw1 k0_h1)

def k0_off4 (i : grid0.Coords) : Fin 1 → Nat :=
  let arg0 : BitVec 32 := BitVec.ofNat 32 (i 0).val
  let c1_i32 : BitVec 32 := 1#32
  let v2 : BitVec 32 := Scalar.addi arg0 c1_i32
  let c79_i32 : BitVec 32 := 79#32
  let v3 : BitVec 32 := Scalar.minsi v2 c79_i32
  let v30 : Index := Scalar.indexCast v3
  ![v30.toNat]
def k0_off5 (v31 : BitVec 32) : Fin 3 → Nat :=
  let v32 : Index := Scalar.indexCast v31
  let c0_13 : Index := 0#32
  let c0_14 : Index := 0#32
  ![v32.toNat, 0, 0]
def k0_cond2 (i : grid0.Coords) (v8 : BitVec 32) (v11 : BitVec 32) : BitVec 1 :=
  let arg0 : BitVec 32 := BitVec.ofNat 32 (i 0).val
  let c1_i32_1 : BitVec 32 := 1#32
  let v7 : BitVec 32 := Scalar.addi arg0 c1_i32_1
  let v9 : BitVec 1 := Scalar.cmpi .slt v7 v8
  let c1_i32_3 : BitVec 32 := 1#32
  let v12 : BitVec 1 := Scalar.cmpi .eq v11 c1_i32_3
  let v13 : BitVec 1 := Scalar.andi v9 v12
  let v14 : BitVec 32 := Scalar.extui v13
  let c0_i32_4 : BitVec 32 := 0#32
  let v15 : BitVec 1 := Scalar.cmpi .ne v14 c0_i32_4
  v15

def k0_chk2 (i : grid0.Coords) (v8 : BitVec 32) (v11 : BitVec 32) (v31 : BitVec 32) : Prop :=
  (∀ (k0_h2 : k0_cond2 i v8 v11 = 1#1), ∀ a, (k0_off5 v31) a + S1x1024x1024.size a ≤ S2x1024x1024.size a) ∧
  (∀ (k0_h2 : k0_cond2 i v8 v11 = 1#1), ∀ (hinb : ∀ a, (k0_off5 v31) a + S1x1024x1024.size a ≤ S2x1024x1024.size a), (Rect.unit (s := S2x1024x1024) (k0_off5 v31) S1x1024x1024.size hinb).PackedRows (EltTy.packing .bf16))
theorem k0_off5_inb : ∀ (i : grid0.Coords) (v8 : BitVec 32) (v11 : BitVec 32) (v31 : BitVec 32) (k0_hw2 : k0_chk2 i v8 v11 v31), ∀ (k0_h2 : k0_cond2 i v8 v11 = 1#1), ∀ a, (k0_off5 v31) a + S1x1024x1024.size a ≤ S2x1024x1024.size a := fun i v8 v11 v31 k0_hw2 k0_h2 => k0_hw2.1 k0_h2
theorem k0_off5_packedbf16 : ∀ (i : grid0.Coords) (v8 : BitVec 32) (v11 : BitVec 32) (v31 : BitVec 32) (k0_hw2 : k0_chk2 i v8 v11 v31), ∀ (k0_h2 : k0_cond2 i v8 v11 = 1#1), (Rect.unit (s := S2x1024x1024) (k0_off5 v31) S1x1024x1024.size (k0_off5_inb i v8 v11 v31 k0_hw2 k0_h2)).PackedRows (EltTy.packing .bf16) := fun i v8 v11 v31 k0_hw2 k0_h2 => k0_hw2.2 k0_h2 (k0_off5_inb i v8 v11 v31 k0_hw2 k0_h2)

def k0_off6 (i : grid0.Coords) : Fin 1 → Nat :=
  let arg0 : BitVec 32 := BitVec.ofNat 32 (i 0).val
  let v16 : Index := Scalar.indexCast arg0
  ![v16.toNat]
def k0_off7 (i : grid0.Coords) : Fin 1 → Nat :=
  let arg0 : BitVec 32 := BitVec.ofNat 32 (i 0).val
  let v37 : Index := Scalar.indexCast arg0
  ![v37.toNat]
def k0_off8 (v38 : BitVec 32) : Fin 3 → Nat :=
  let v39 : Index := Scalar.indexCast v38
  let c0_18 : Index := 0#32
  let c0_19 : Index := 0#32
  ![v39.toNat, 0, 0]
def k0_cond4 (i : grid0.Coords) (v0 : BitVec 32) : BitVec 1 :=
  let arg0 : BitVec 32 := BitVec.ofNat 32 (i 0).val
  let v1 : BitVec 1 := Scalar.cmpi .slt arg0 v0
  let v22 : BitVec 32 := Scalar.extui v1
  let c0_i32_7 : BitVec 32 := 0#32
  let v23 : BitVec 1 := Scalar.cmpi .ne v22 c0_i32_7
  v23

def k0_chk3 (i : grid0.Coords) (v0 : BitVec 32) (v38 : BitVec 32) : Prop :=
  (∀ (k0_h4 : k0_cond4 i v0 = 1#1), ∀ a, (k0_off8 v38) a + S1x1024x1024.size a ≤ S2x1024x1024.size a)
theorem k0_off8_inb : ∀ (i : grid0.Coords) (v0 : BitVec 32) (v38 : BitVec 32) (k0_hw3 : k0_chk3 i v0 v38), ∀ (k0_h4 : k0_cond4 i v0 = 1#1), ∀ a, (k0_off8 v38) a + S1x1024x1024.size a ≤ S2x1024x1024.size a := fun i v0 v38 k0_hw3 k0_h4 => k0_hw3 k0_h4

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v24 : BitVec 1 := Scalar.xori v1 v_true
  let v25 : BitVec 32 := Scalar.extui v24
  let c0_i32_8 : BitVec 32 := 0#32
  let v26 : BitVec 1 := Scalar.cmpi .ne v25 c0_i32_8
  v26

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let v1 : BitVec 32 := Scalar.minsi arg0 v0
  let c0_i32 : BitVec 32 := 0#32
  let c0_i32_0 : BitVec 32 := 0#32
  ![v1.toNat, c0_i32.toNat]

def cc0_transform_1 (inb_S80_S1_0 : ∀ a, (![0] : Fin 1 → Nat) a + S1.size a ≤ S80.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S80) ![0] S1.size inb_S80_S1_0) numel1_S1
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi arg0 c1_i32
  let c79_i32 : BitVec 32 := 79#32
  let v1 : BitVec 32 := Scalar.minsi v0 c79_i32
  let v2 : Index := Scalar.indexCast v1
  let v3 : BitVec 32 := pf.at 0 (Rect.unit (s := S80) ![v2.toNat] S1.size (k0_off1_inb i)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_3 (k0_off2_inb : ∀ i : grid0.Coords, ∀ a, (k0_off2 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off2_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S80 : Shape := ⟨1, ![80]⟩
abbrev S1 : Shape := ⟨1, ![1]⟩
abbrev S327680x128 : Shape := ⟨2, ![327680, 128]⟩
abbrev S2x16x1024x1024 : Shape := ⟨4, ![2, 16, 1024, 1024]⟩
abbrev S2x16x512x1024 : Shape := ⟨4, ![2, 16, 512, 1024]⟩
abbrev S1x16x1024x1024 : Shape := ⟨4, ![1, 16, 1024, 1024]⟩
abbrev S16x1024x1024 : Shape := ⟨3, ![16, 1024, 1024]⟩
abbrev S1x16x512x1024 : Shape := ⟨4, ![1, 16, 512, 1024]⟩
abbrev S16x512x1024 : Shape := ⟨3, ![16, 512, 1024]⟩
abbrev S40960x1024 : Shape := ⟨2, ![40960, 1024]⟩
abbrev S80x512 : Shape := ⟨2, ![80, 512]⟩
abbrev S40960 : Shape := ⟨1, ![40960]⟩
abbrev S40960x1 : Shape := ⟨2, ![40960, 1]⟩
abbrev S1x16 : Shape := ⟨2, ![1, 16]⟩
abbrev S40960x16 : Shape := ⟨2, ![40960, 16]⟩
abbrev S_ : Shape := ⟨0, ![]⟩
abbrev S1x1024x1024 : Shape := ⟨3, ![1, 1024, 1024]⟩
abbrev S1024x1024 : Shape := ⟨2, ![1024, 1024]⟩
abbrev S40960x512 : Shape := ⟨2, ![40960, 512]⟩
abbrev S1x512x1024 : Shape := ⟨3, ![1, 512, 1024]⟩
abbrev S512x1024 : Shape := ⟨2, ![512, 1024]⟩

abbrev nBuf : Space → Nat
  | .hbm => 383
  | .vmem => 0
  | .smem => 0
  | _ => 0

abbrev hbmTy0_0 (i : Nat) : BufTy := match i % 128 with
  | 0 => ⟨S80, .i32⟩
  | 1 => ⟨S1, .i32⟩
  | 2 => ⟨S327680x128, .f32⟩
  | 3 => ⟨S2x16x1024x1024, .f32⟩
  | 4 => ⟨S2x16x512x1024, .f32⟩
  | 5 => ⟨S1x16x1024x1024, .f32⟩
  | 6 => ⟨S16x1024x1024, .f32⟩
  | 7 => ⟨S1x16x512x1024, .f32⟩
  | 8 => ⟨S16x512x1024, .f32⟩
  | 9 => ⟨S40960x1024, .f32⟩
  | 10 => ⟨S80, .i32⟩
  | 11 => ⟨S80x512, .i32⟩
  | 12 => ⟨S40960, .i32⟩
  | 13 => ⟨S80x512, .i32⟩
  | 14 => ⟨S40960, .i32⟩
  | 15 => ⟨S40960x1, .i32⟩
  | 16 => ⟨S1x16, .i32⟩
  | 17 => ⟨S40960x16, .i32⟩
  | 18 => ⟨S40960x16, .i32⟩
  | 19 => ⟨S40960x16, .i1⟩
  | 20 => ⟨S40960x16, .f32⟩
  | 21 => ⟨S_, .i32⟩
  | 22 => ⟨S40960, .i32⟩
  | 23 => ⟨S40960, .i1⟩
  | 24 => ⟨S40960, .f32⟩
  | 25 => ⟨S40960x1, .f32⟩
  | 26 => ⟨S40960x16, .f32⟩
  | 27 => ⟨S40960x16, .f32⟩
  | 28 => ⟨S_, .f32⟩
  | 29 => ⟨S40960x1024, .f32⟩
  | 30 => ⟨S1x1024x1024, .f32⟩
  | 31 => ⟨S1024x1024, .f32⟩
  | 32 => ⟨S40960x1024, .f32⟩
  | 33 => ⟨S40960x512, .f32⟩
  | 34 => ⟨S40960x512, .f32⟩
  | 35 => ⟨S40960x1, .f32⟩
  | 36 => ⟨S40960x512, .f32⟩
  | 37 => ⟨S40960x512, .f32⟩
  | 38 => ⟨S_, .f32⟩
  | 39 => ⟨S40960x512, .f32⟩
  | 40 => ⟨S40960x512, .f32⟩
  | 41 => ⟨S_, .f32⟩
  | 42 => ⟨S40960x512, .f32⟩
  | 43 => ⟨S40960x512, .f32⟩
  | 44 => ⟨S40960x512, .f32⟩
  | 45 => ⟨S40960x512, .f32⟩
  | 46 => ⟨S1x512x1024, .f32⟩
  | 47 => ⟨S512x1024, .f32⟩
  | 48 => ⟨S40960x1024, .f32⟩
  | 49 => ⟨S40960x1024, .f32⟩
  | 50 => ⟨S40960x1024, .f32⟩
  | 51 => ⟨S40960x1024, .f32⟩
  | 52 => ⟨S1x1024x1024, .f32⟩
  | 53 => ⟨S1024x1024, .f32⟩
  | 54 => ⟨S40960x1024, .f32⟩
  | 55 => ⟨S40960x512, .f32⟩
  | 56 => ⟨S40960x512, .f32⟩
  | 57 => ⟨S40960x1, .f32⟩
  | 58 => ⟨S40960x512, .f32⟩
  | 59 => ⟨S40960x512, .f32⟩
  | 60 => ⟨S_, .f32⟩
  | 61 => ⟨S40960x512, .f32⟩
  | 62 => ⟨S40960x512, .f32⟩
  | 63 => ⟨S_, .f32⟩
  | 64 => ⟨S40960x512, .f32⟩
  | 65 => ⟨S40960x512, .f32⟩
  | 66 => ⟨S40960x512, .f32⟩
  | 67 => ⟨S40960x512, .f32⟩
  | 68 => ⟨S1x512x1024, .f32⟩
  | 69 => ⟨S512x1024, .f32⟩
  | 70 => ⟨S40960x1024, .f32⟩
  | 71 => ⟨S40960x1024, .f32⟩
  | 72 => ⟨S40960x1024, .f32⟩
  | 73 => ⟨S40960x1024, .f32⟩
  | 74 => ⟨S1x1024x1024, .f32⟩
  | 75 => ⟨S1024x1024, .f32⟩
  | 76 => ⟨S40960x1024, .f32⟩
  | 77 => ⟨S40960x512, .f32⟩
  | 78 => ⟨S40960x512, .f32⟩
  | 79 => ⟨S40960x1, .f32⟩
  | 80 => ⟨S40960x512, .f32⟩
  | 81 => ⟨S40960x512, .f32⟩
  | 82 => ⟨S_, .f32⟩
  | 83 => ⟨S40960x512, .f32⟩
  | 84 => ⟨S40960x512, .f32⟩
  | 85 => ⟨S_, .f32⟩
  | 86 => ⟨S40960x512, .f32⟩
  | 87 => ⟨S40960x512, .f32⟩
  | 88 => ⟨S40960x512, .f32⟩
  | 89 => ⟨S40960x512, .f32⟩
  | 90 => ⟨S1x512x1024, .f32⟩
  | 91 => ⟨S512x1024, .f32⟩
  | 92 => ⟨S40960x1024, .f32⟩
  | 93 => ⟨S40960x1024, .f32⟩
  | 94 => ⟨S40960x1024, .f32⟩
  | 95 => ⟨S40960x1024, .f32⟩
  | 96 => ⟨S1x1024x1024, .f32⟩
  | 97 => ⟨S1024x1024, .f32⟩
  | 98 => ⟨S40960x1024, .f32⟩
  | 99 => ⟨S40960x512, .f32⟩
  | 100 => ⟨S40960x512, .f32⟩
  | 101 => ⟨S40960x1, .f32⟩
  | 102 => ⟨S40960x512, .f32⟩
  | 103 => ⟨S40960x512, .f32⟩
  | 104 => ⟨S_, .f32⟩
  | 105 => ⟨S40960x512, .f32⟩
  | 106 => ⟨S40960x512, .f32⟩
  | 107 => ⟨S_, .f32⟩
  | 108 => ⟨S40960x512, .f32⟩
  | 109 => ⟨S40960x512, .f32⟩
  | 110 => ⟨S40960x512, .f32⟩
  | 111 => ⟨S40960x512, .f32⟩
  | 112 => ⟨S1x512x1024, .f32⟩
  | 113 => ⟨S512x1024, .f32⟩
  | 114 => ⟨S40960x1024, .f32⟩
  | 115 => ⟨S40960x1024, .f32⟩
  | 116 => ⟨S40960x1024, .f32⟩
  | 117 => ⟨S40960x1024, .f32⟩
  | 118 => ⟨S1x1024x1024, .f32⟩
  | 119 => ⟨S1024x1024, .f32⟩
  | 120 => ⟨S40960x1024, .f32⟩
  | 121 => ⟨S40960x512, .f32⟩
  | 122 => ⟨S40960x512, .f32⟩
  | 123 => ⟨S40960x1, .f32⟩
  | 124 => ⟨S40960x512, .f32⟩
  | 125 => ⟨S40960x512, .f32⟩
  | 126 => ⟨S_, .f32⟩
  | 127 => ⟨S40960x512, .f32⟩
  | _ => ⟨S80, .i32⟩

abbrev hbmTy0_1 (i : Nat) : BufTy := match i % 128 with
  | 0 => ⟨S40960x512, .f32⟩
  | 1 => ⟨S_, .f32⟩
  | 2 => ⟨S40960x512, .f32⟩
  | 3 => ⟨S40960x512, .f32⟩
  | 4 => ⟨S40960x512, .f32⟩
  | 5 => ⟨S40960x512, .f32⟩
  | 6 => ⟨S1x512x1024, .f32⟩
  | 7 => ⟨S512x1024, .f32⟩
  | 8 => ⟨S40960x1024, .f32⟩
  | 9 => ⟨S40960x1024, .f32⟩
  | 10 => ⟨S40960x1024, .f32⟩
  | 11 => ⟨S40960x1024, .f32⟩
  | 12 => ⟨S1x1024x1024, .f32⟩
  | 13 => ⟨S1024x1024, .f32⟩
  | 14 => ⟨S40960x1024, .f32⟩
  | 15 => ⟨S40960x512, .f32⟩
  | 16 => ⟨S40960x512, .f32⟩
  | 17 => ⟨S40960x1, .f32⟩
  | 18 => ⟨S40960x512, .f32⟩
  | 19 => ⟨S40960x512, .f32⟩
  | 20 => ⟨S_, .f32⟩
  | 21 => ⟨S40960x512, .f32⟩
  | 22 => ⟨S40960x512, .f32⟩
  | 23 => ⟨S_, .f32⟩
  | 24 => ⟨S40960x512, .f32⟩
  | 25 => ⟨S40960x512, .f32⟩
  | 26 => ⟨S40960x512, .f32⟩
  | 27 => ⟨S40960x512, .f32⟩
  | 28 => ⟨S1x512x1024, .f32⟩
  | 29 => ⟨S512x1024, .f32⟩
  | 30 => ⟨S40960x1024, .f32⟩
  | 31 => ⟨S40960x1024, .f32⟩
  | 32 => ⟨S40960x1024, .f32⟩
  | 33 => ⟨S40960x1024, .f32⟩
  | 34 => ⟨S1x1024x1024, .f32⟩
  | 35 => ⟨S1024x1024, .f32⟩
  | 36 => ⟨S40960x1024, .f32⟩
  | 37 => ⟨S40960x512, .f32⟩
  | 38 => ⟨S40960x512, .f32⟩
  | 39 => ⟨S40960x1, .f32⟩
  | 40 => ⟨S40960x512, .f32⟩
  | 41 => ⟨S40960x512, .f32⟩
  | 42 => ⟨S_, .f32⟩
  | 43 => ⟨S40960x512, .f32⟩
  | 44 => ⟨S40960x512, .f32⟩
  | 45 => ⟨S_, .f32⟩
  | 46 => ⟨S40960x512, .f32⟩
  | 47 => ⟨S40960x512, .f32⟩
  | 48 => ⟨S40960x512, .f32⟩
  | 49 => ⟨S40960x512, .f32⟩
  | 50 => ⟨S1x512x1024, .f32⟩
  | 51 => ⟨S512x1024, .f32⟩
  | 52 => ⟨S40960x1024, .f32⟩
  | 53 => ⟨S40960x1024, .f32⟩
  | 54 => ⟨S40960x1024, .f32⟩
  | 55 => ⟨S40960x1024, .f32⟩
  | 56 => ⟨S1x1024x1024, .f32⟩
  | 57 => ⟨S1024x1024, .f32⟩
  | 58 => ⟨S40960x1024, .f32⟩
  | 59 => ⟨S40960x512, .f32⟩
  | 60 => ⟨S40960x512, .f32⟩
  | 61 => ⟨S40960x1, .f32⟩
  | 62 => ⟨S40960x512, .f32⟩
  | 63 => ⟨S40960x512, .f32⟩
  | 64 => ⟨S_, .f32⟩
  | 65 => ⟨S40960x512, .f32⟩
  | 66 => ⟨S40960x512, .f32⟩
  | 67 => ⟨S_, .f32⟩
  | 68 => ⟨S40960x512, .f32⟩
  | 69 => ⟨S40960x512, .f32⟩
  | 70 => ⟨S40960x512, .f32⟩
  | 71 => ⟨S40960x512, .f32⟩
  | 72 => ⟨S1x512x1024, .f32⟩
  | 73 => ⟨S512x1024, .f32⟩
  | 74 => ⟨S40960x1024, .f32⟩
  | 75 => ⟨S40960x1024, .f32⟩
  | 76 => ⟨S40960x1024, .f32⟩
  | 77 => ⟨S40960x1024, .f32⟩
  | 78 => ⟨S1x1024x1024, .f32⟩
  | 79 => ⟨S1024x1024, .f32⟩
  | 80 => ⟨S40960x1024, .f32⟩
  | 81 => ⟨S40960x512, .f32⟩
  | 82 => ⟨S40960x512, .f32⟩
  | 83 => ⟨S40960x1, .f32⟩
  | 84 => ⟨S40960x512, .f32⟩
  | 85 => ⟨S40960x512, .f32⟩
  | 86 => ⟨S_, .f32⟩
  | 87 => ⟨S40960x512, .f32⟩
  | 88 => ⟨S40960x512, .f32⟩
  | 89 => ⟨S_, .f32⟩
  | 90 => ⟨S40960x512, .f32⟩
  | 91 => ⟨S40960x512, .f32⟩
  | 92 => ⟨S40960x512, .f32⟩
  | 93 => ⟨S40960x512, .f32⟩
  | 94 => ⟨S1x512x1024, .f32⟩
  | 95 => ⟨S512x1024, .f32⟩
  | 96 => ⟨S40960x1024, .f32⟩
  | 97 => ⟨S40960x1024, .f32⟩
  | 98 => ⟨S40960x1024, .f32⟩
  | 99 => ⟨S40960x1024, .f32⟩
  | 100 => ⟨S1x1024x1024, .f32⟩
  | 101 => ⟨S1024x1024, .f32⟩
  | 102 => ⟨S40960x1024, .f32⟩
  | 103 => ⟨S40960x512, .f32⟩
  | 104 => ⟨S40960x512, .f32⟩
  | 105 => ⟨S40960x1, .f32⟩
  | 106 => ⟨S40960x512, .f32⟩
  | 107 => ⟨S40960x512, .f32⟩
  | 108 => ⟨S_, .f32⟩
  | 109 => ⟨S40960x512, .f32⟩
  | 110 => ⟨S40960x512, .f32⟩
  | 111 => ⟨S_, .f32⟩
  | 112 => ⟨S40960x512, .f32⟩
  | 113 => ⟨S40960x512, .f32⟩
  | 114 => ⟨S40960x512, .f32⟩
  | 115 => ⟨S40960x512, .f32⟩
  | 116 => ⟨S1x512x1024, .f32⟩
  | 117 => ⟨S512x1024, .f32⟩
  | 118 => ⟨S40960x1024, .f32⟩
  | 119 => ⟨S40960x1024, .f32⟩
  | 120 => ⟨S40960x1024, .f32⟩
  | 121 => ⟨S40960x1024, .f32⟩
  | 122 => ⟨S1x1024x1024, .f32⟩
  | 123 => ⟨S1024x1024, .f32⟩
  | 124 => ⟨S40960x1024, .f32⟩
  | 125 => ⟨S40960x512, .f32⟩
  | 126 => ⟨S40960x512, .f32⟩
  | 127 => ⟨S40960x1, .f32⟩
  | _ => ⟨S80, .i32⟩

abbrev hbmTy0_2 (i : Nat) : BufTy := match i % 128 with
  | 0 => ⟨S40960x512, .f32⟩
  | 1 => ⟨S40960x512, .f32⟩
  | 2 => ⟨S_, .f32⟩
  | 3 => ⟨S40960x512, .f32⟩
  | 4 => ⟨S40960x512, .f32⟩
  | 5 => ⟨S_, .f32⟩
  | 6 => ⟨S40960x512, .f32⟩
  | 7 => ⟨S40960x512, .f32⟩
  | 8 => ⟨S40960x512, .f32⟩
  | 9 => ⟨S40960x512, .f32⟩
  | 10 => ⟨S1x512x1024, .f32⟩
  | 11 => ⟨S512x1024, .f32⟩
  | 12 => ⟨S40960x1024, .f32⟩
  | 13 => ⟨S40960x1024, .f32⟩
  | 14 => ⟨S40960x1024, .f32⟩
  | 15 => ⟨S40960x1024, .f32⟩
  | 16 => ⟨S1x1024x1024, .f32⟩
  | 17 => ⟨S1024x1024, .f32⟩
  | 18 => ⟨S40960x1024, .f32⟩
  | 19 => ⟨S40960x512, .f32⟩
  | 20 => ⟨S40960x512, .f32⟩
  | 21 => ⟨S40960x1, .f32⟩
  | 22 => ⟨S40960x512, .f32⟩
  | 23 => ⟨S40960x512, .f32⟩
  | 24 => ⟨S_, .f32⟩
  | 25 => ⟨S40960x512, .f32⟩
  | 26 => ⟨S40960x512, .f32⟩
  | 27 => ⟨S_, .f32⟩
  | 28 => ⟨S40960x512, .f32⟩
  | 29 => ⟨S40960x512, .f32⟩
  | 30 => ⟨S40960x512, .f32⟩
  | 31 => ⟨S40960x512, .f32⟩
  | 32 => ⟨S1x512x1024, .f32⟩
  | 33 => ⟨S512x1024, .f32⟩
  | 34 => ⟨S40960x1024, .f32⟩
  | 35 => ⟨S40960x1024, .f32⟩
  | 36 => ⟨S40960x1024, .f32⟩
  | 37 => ⟨S40960x1024, .f32⟩
  | 38 => ⟨S1x1024x1024, .f32⟩
  | 39 => ⟨S1024x1024, .f32⟩
  | 40 => ⟨S40960x1024, .f32⟩
  | 41 => ⟨S40960x512, .f32⟩
  | 42 => ⟨S40960x512, .f32⟩
  | 43 => ⟨S40960x1, .f32⟩
  | 44 => ⟨S40960x512, .f32⟩
  | 45 => ⟨S40960x512, .f32⟩
  | 46 => ⟨S_, .f32⟩
  | 47 => ⟨S40960x512, .f32⟩
  | 48 => ⟨S40960x512, .f32⟩
  | 49 => ⟨S_, .f32⟩
  | 50 => ⟨S40960x512, .f32⟩
  | 51 => ⟨S40960x512, .f32⟩
  | 52 => ⟨S40960x512, .f32⟩
  | 53 => ⟨S40960x512, .f32⟩
  | 54 => ⟨S1x512x1024, .f32⟩
  | 55 => ⟨S512x1024, .f32⟩
  | 56 => ⟨S40960x1024, .f32⟩
  | 57 => ⟨S40960x1024, .f32⟩
  | 58 => ⟨S40960x1024, .f32⟩
  | 59 => ⟨S40960x1024, .f32⟩
  | 60 => ⟨S1x1024x1024, .f32⟩
  | 61 => ⟨S1024x1024, .f32⟩
  | 62 => ⟨S40960x1024, .f32⟩
  | 63 => ⟨S40960x512, .f32⟩
  | 64 => ⟨S40960x512, .f32⟩
  | 65 => ⟨S40960x1, .f32⟩
  | 66 => ⟨S40960x512, .f32⟩
  | 67 => ⟨S40960x512, .f32⟩
  | 68 => ⟨S_, .f32⟩
  | 69 => ⟨S40960x512, .f32⟩
  | 70 => ⟨S40960x512, .f32⟩
  | 71 => ⟨S_, .f32⟩
  | 72 => ⟨S40960x512, .f32⟩
  | 73 => ⟨S40960x512, .f32⟩
  | 74 => ⟨S40960x512, .f32⟩
  | 75 => ⟨S40960x512, .f32⟩
  | 76 => ⟨S1x512x1024, .f32⟩
  | 77 => ⟨S512x1024, .f32⟩
  | 78 => ⟨S40960x1024, .f32⟩
  | 79 => ⟨S40960x1024, .f32⟩
  | 80 => ⟨S40960x1024, .f32⟩
  | 81 => ⟨S40960x1024, .f32⟩
  | 82 => ⟨S1x1024x1024, .f32⟩
  | 83 => ⟨S1024x1024, .f32⟩
  | 84 => ⟨S40960x1024, .f32⟩
  | 85 => ⟨S40960x512, .f32⟩
  | 86 => ⟨S40960x512, .f32⟩
  | 87 => ⟨S40960x1, .f32⟩
  | 88 => ⟨S40960x512, .f32⟩
  | 89 => ⟨S40960x512, .f32⟩
  | 90 => ⟨S_, .f32⟩
  | 91 => ⟨S40960x512, .f32⟩
  | 92 => ⟨S40960x512, .f32⟩
  | 93 => ⟨S_, .f32⟩
  | 94 => ⟨S40960x512, .f32⟩
  | 95 => ⟨S40960x512, .f32⟩
  | 96 => ⟨S40960x512, .f32⟩
  | 97 => ⟨S40960x512, .f32⟩
  | 98 => ⟨S1x512x1024, .f32⟩
  | 99 => ⟨S512x1024, .f32⟩
  | 100 => ⟨S40960x1024, .f32⟩
  | 101 => ⟨S40960x1024, .f32⟩
  | 102 => ⟨S40960x1024, .f32⟩
  | 103 => ⟨S40960x1024, .f32⟩
  | 104 => ⟨S1x1024x1024, .f32⟩
  | 105 => ⟨S1024x1024, .f32⟩
  | 106 => ⟨S40960x1024, .f32⟩
  | 107 => ⟨S40960x512, .f32⟩
  | 108 => ⟨S40960x512, .f32⟩
  | 109 => ⟨S40960x1, .f32⟩
  | 110 => ⟨S40960x512, .f32⟩
  | 111 => ⟨S40960x512, .f32⟩
  | 112 => ⟨S_, .f32⟩
  | 113 => ⟨S40960x512, .f32⟩
  | 114 => ⟨S40960x512, .f32⟩
  | 115 => ⟨S_, .f32⟩
  | 116 => ⟨S40960x512, .f32⟩
  | 117 => ⟨S40960x512, .f32⟩
  | 118 => ⟨S40960x512, .f32⟩
  | 119 => ⟨S40960x512, .f32⟩
  | 120 => ⟨S1x512x1024, .f32⟩
  | 121 => ⟨S512x1024, .f32⟩
  | 122 => ⟨S40960x1024, .f32⟩
  | 123 => ⟨S40960x1024, .f32⟩
  | 124 => ⟨S40960x1024, .f32⟩
  | 125 => ⟨S40960x1024, .f32⟩
  | 126 => ⟨S327680x128, .f32⟩
  | _ => ⟨S80, .i32⟩

abbrev hbmTy (i : Nat) : BufTy := match i / 128 with
  | 0 => hbmTy0_0 i
  | 1 => hbmTy0_1 i
  | 2 => hbmTy0_2 i
  | _ => ⟨S80, .i32⟩

abbrev bufTy : (tb : Table) → Fin (tcTables nBuf tb) → BufTy
  | .hbm, ⟨i, _⟩ => hbmTy i
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_call6_v0 : Ref sig .tc := ⟨.hbm, 146, rfl⟩
abbrev main_call6_v1 : Ref sig .tc := ⟨.hbm, 147, rfl⟩
abbrev main_call6_cst : Ref sig .tc := ⟨.hbm, 148, rfl⟩
abbrev main_call6_v2 : Ref sig .tc := ⟨.hbm, 149, rfl⟩
abbrev main_call6_v3 : Ref sig .tc := ⟨.hbm, 150, rfl⟩
abbrev main_call6_cst_0 : Ref sig .tc := ⟨.hbm, 151, rfl⟩
abbrev main_call6_v4 : Ref sig .tc := ⟨.hbm, 152, rfl⟩
abbrev main_call6_v5 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_call7_v0 : Ref sig .tc := ⟨.hbm, 168, rfl⟩
abbrev main_call7_v1 : Ref sig .tc := ⟨.hbm, 169, rfl⟩
abbrev main_call7_cst : Ref sig .tc := ⟨.hbm, 170, rfl⟩
abbrev main_call7_v2 : Ref sig .tc := ⟨.hbm, 171, rfl⟩
abbrev main_call7_v3 : Ref sig .tc := ⟨.hbm, 172, rfl⟩
abbrev main_call7_cst_0 : Ref sig .tc := ⟨.hbm, 173, rfl⟩
abbrev main_call7_v4 : Ref sig .tc := ⟨.hbm, 174, rfl⟩
abbrev main_call7_v5 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_call9_v0 : Ref sig .tc := ⟨.hbm, 212, rfl⟩
abbrev main_call9_v1 : Ref sig .tc := ⟨.hbm, 213, rfl⟩
abbrev main_call9_cst : Ref sig .tc := ⟨.hbm, 214, rfl⟩
abbrev main_call9_v2 : Ref sig .tc := ⟨.hbm, 215, rfl⟩
abbrev main_call9_v3 : Ref sig .tc := ⟨.hbm, 216, rfl⟩
abbrev main_call9_cst_0 : Ref sig .tc := ⟨.hbm, 217, rfl⟩
abbrev main_call9_v4 : Ref sig .tc := ⟨.hbm, 218, rfl⟩
abbrev main_call9_v5 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_call10_v0 : Ref sig .tc := ⟨.hbm, 234, rfl⟩
abbrev main_call10_v1 : Ref sig .tc := ⟨.hbm, 235, rfl⟩
abbrev main_call10_cst : Ref sig .tc := ⟨.hbm, 236, rfl⟩
abbrev main_call10_v2 : Ref sig .tc := ⟨.hbm, 237, rfl⟩
abbrev main_call10_v3 : Ref sig .tc := ⟨.hbm, 238, rfl⟩
abbrev main_call10_cst_0 : Ref sig .tc := ⟨.hbm, 239, rfl⟩
abbrev main_call10_v4 : Ref sig .tc := ⟨.hbm, 240, rfl⟩
abbrev main_call10_v5 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_call11_v0 : Ref sig .tc := ⟨.hbm, 256, rfl⟩
abbrev main_call11_v1 : Ref sig .tc := ⟨.hbm, 257, rfl⟩
abbrev main_call11_cst : Ref sig .tc := ⟨.hbm, 258, rfl⟩
abbrev main_call11_v2 : Ref sig .tc := ⟨.hbm, 259, rfl⟩
abbrev main_call11_v3 : Ref sig .tc := ⟨.hbm, 260, rfl⟩
abbrev main_call11_cst_0 : Ref sig .tc := ⟨.hbm, 261, rfl⟩
abbrev main_call11_v4 : Ref sig .tc := ⟨.hbm, 262, rfl⟩
abbrev main_call11_v5 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_call12_v0 : Ref sig .tc := ⟨.hbm, 278, rfl⟩
abbrev main_call12_v1 : Ref sig .tc := ⟨.hbm, 279, rfl⟩
abbrev main_call12_cst : Ref sig .tc := ⟨.hbm, 280, rfl⟩
abbrev main_call12_v2 : Ref sig .tc := ⟨.hbm, 281, rfl⟩
abbrev main_call12_v3 : Ref sig .tc := ⟨.hbm, 282, rfl⟩
abbrev main_call12_cst_0 : Ref sig .tc := ⟨.hbm, 283, rfl⟩
abbrev main_call12_v4 : Ref sig .tc := ⟨.hbm, 284, rfl⟩
abbrev main_call12_v5 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_call13_v0 : Ref sig .tc := ⟨.hbm, 300, rfl⟩
abbrev main_call13_v1 : Ref sig .tc := ⟨.hbm, 301, rfl⟩
abbrev main_call13_cst : Ref sig .tc := ⟨.hbm, 302, rfl⟩
abbrev main_call13_v2 : Ref sig .tc := ⟨.hbm, 303, rfl⟩
abbrev main_call13_v3 : Ref sig .tc := ⟨.hbm, 304, rfl⟩
abbrev main_call13_cst_0 : Ref sig .tc := ⟨.hbm, 305, rfl⟩
abbrev main_call13_v4 : Ref sig .tc := ⟨.hbm, 306, rfl⟩
abbrev main_call13_v5 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_call14_v0 : Ref sig .tc := ⟨.hbm, 322, rfl⟩
abbrev main_call14_v1 : Ref sig .tc := ⟨.hbm, 323, rfl⟩
abbrev main_call14_cst : Ref sig .tc := ⟨.hbm, 324, rfl⟩
abbrev main_call14_v2 : Ref sig .tc := ⟨.hbm, 325, rfl⟩
abbrev main_call14_v3 : Ref sig .tc := ⟨.hbm, 326, rfl⟩
abbrev main_call14_cst_0 : Ref sig .tc := ⟨.hbm, 327, rfl⟩
abbrev main_call14_v4 : Ref sig .tc := ⟨.hbm, 328, rfl⟩
abbrev main_call14_v5 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_call15_v0 : Ref sig .tc := ⟨.hbm, 344, rfl⟩
abbrev main_call15_v1 : Ref sig .tc := ⟨.hbm, 345, rfl⟩
abbrev main_call15_cst : Ref sig .tc := ⟨.hbm, 346, rfl⟩
abbrev main_call15_v2 : Ref sig .tc := ⟨.hbm, 347, rfl⟩
abbrev main_call15_v3 : Ref sig .tc := ⟨.hbm, 348, rfl⟩
abbrev main_call15_cst_0 : Ref sig .tc := ⟨.hbm, 349, rfl⟩
abbrev main_call15_v4 : Ref sig .tc := ⟨.hbm, 350, rfl⟩
abbrev main_call15_v5 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_call16_v0 : Ref sig .tc := ⟨.hbm, 366, rfl⟩
abbrev main_call16_v1 : Ref sig .tc := ⟨.hbm, 367, rfl⟩
abbrev main_call16_cst : Ref sig .tc := ⟨.hbm, 368, rfl⟩
abbrev main_call16_v2 : Ref sig .tc := ⟨.hbm, 369, rfl⟩
abbrev main_call16_v3 : Ref sig .tc := ⟨.hbm, 370, rfl⟩
abbrev main_call16_cst_0 : Ref sig .tc := ⟨.hbm, 371, rfl⟩
abbrev main_call16_v4 : Ref sig .tc := ⟨.hbm, 372, rfl⟩
abbrev main_call16_v5 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩

abbrev nD : Nat := 1
abbrev τ : Topo := Topo.v7x

variable {F : FTy → Type} [FloatOps F]
-- ==== Proof.Conv.Body.lean ====
/-
  One point of the short convolution's grid, as a function of the blocks it reads. A point multiplies a block of 512
  rows into the three channels, keeps the product of the last two of them in rows 8 to 519 of a scratch buffer whose
  rows 0 to 7 hold the eight rows before the block, and reads that buffer back shifted by one and by two rows.

    shiftRows   the rows read back: `k` rows of what came before the block, then the block's own rows.
    rowProd     the product of the two channels for the block's rows.
    rowsOut     the block written to the result, over the two shifted reads.
    out_A, out_B     what a point leaves in its output block: at the first block of a sequence over rows of zeros, at
                     every other over what the point before left in the scratch buffer.
    tail_A, tail_B   what a point leaves in rows 0 to 7 of the scratch buffer: the last eight rows of the product.
-/
module

public import proofs.«01_k».proof.Proof.Gen.KernelIdeal.Value
public import Idealize.ShloMosaic.Lib.Pipeline.ValueKit
public import Idealize.ShloMosaic.Lib.WritesUnit

@[expose] public section

set_option maxRecDepth 16384

noncomputable section

namespace Cert.KernelIdeal.Conv

open Idealize.ShloMosaic Idealize.ShloMosaic.TcCoe Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The block `z` read `k` rows early: its first `k` rows are rows `8 - k` to 7 of what came before. -/
def shiftRows (k : Nat) (h : Vec Ideal S520x1024 .f32) (z : Vec Ideal S512x1024 .f32) : Vec Ideal S512x1024 .f32 := fun y =>
  if (y 0).val < k then h (ix2 (⟨(8 - k + (y 0).val) % 520, Nat.mod_lt _ (by decide)⟩ : Fin 520) (y 1 : Fin 1024))
  else z (ix2 (⟨((y 0).val - k) % 512, Nat.mod_lt _ (by decide)⟩ : Fin 512) (y 1 : Fin 1024))

/-- Reading the scratch buffer `k` rows early, after the block is stored at row 8, reads `shiftRows`. -/
theorem ld_shift (v : View sig .tc .vmem S520x1024 .f32) (f : v.ty.Contents (Elt Ideal)) (z : Vec Ideal S512x1024 .f32)
    (L : List (View.Piece (Elt Ideal) S520x1024 .f32)) (k : Nat) (hk : 0 < k ∧ k ≤ 8) {off : Fin 2 → Nat} (hoff : off = ![8 - k, 0])
    (inb8 : ∀ a : Fin 2, (![8, 0] : Fin 2 → Nat) a + S512x1024.size a ≤ S520x1024.size a)
    (inb : ∀ a : Fin 2, off a + S512x1024.size a ≤ S520x1024.size a) :
    View.ld (v.read (Elt Ideal) (v.writes (Elt Ideal) f (⟨Rect.unit (s := S520x1024) ![8, 0] S512x1024.size inb8, z⟩ :: L)))
        (Rect.unit (s := S520x1024) off S512x1024.size inb)
      = shiftRows k (v.read (Elt Ideal) (v.writes (Elt Ideal) f L)) z := by
  subst hoff
  funext y
  have h0 : (y 0).val < 512 := (y 0).isLt
  have h1 : (y 1).val < 1024 := (y 1).isLt
  unfold View.ld shiftRows
  split
  · rename_i hlt
    rw [View.read_writes_cons_unit_of_not_mem v f inb8 z L _ rfl (0 : Fin 2) (Or.inl (by
      show 8 - k + 1 * (y 0).val < 8; omega))]
    refine congrArg (v.read (Elt Ideal) (v.writes (Elt Ideal) f L)) (funext fun a => Fin.ext ?_)
    match a with
    | ⟨0, _⟩ => show 8 - k + 1 * (y 0).val = (8 - k + (y 0).val) % 520; rw [Nat.mod_eq_of_lt (by omega)]; omega
    | ⟨1, _⟩ => show 0 + 1 * (y 1).val = (y 1).val; omega
  · rename_i hlt
    exact View.read_writes_cons_unit_of_mem v f inb8 z L _ _ rfl (fun a => by
      match a with
      | ⟨0, _⟩ => show 8 - k + 1 * (y 0).val = 8 + ((y 0).val - k) % 512; rw [Nat.mod_eq_of_lt (by omega)]; omega
      | ⟨1, _⟩ => show 0 + 1 * (y 1).val = 0 + (y 1).val; omega)

/-- The product of the second and third channels of the block's rows. -/
def rowProd (x0 : Vec Ideal S1x512x1024 .f32) (x1 : Vec Ideal S1x6x1024 .f32) (x2 : Vec Ideal S1024x3072 .bf16) : Vec Ideal S512x1024 .f32 :=
  k0_pay7 x0 (View.ld x1 (Rect.unit ![0, 0, 0] S1x1x1024.size inb_S1x6x1024_S1x1x1024_0_0_0))
    (View.ld x1 (Rect.unit ![0, 1, 0] S1x1x1024.size inb_S1x6x1024_S1x1x1024_0_1_0)) x2

/-- The block a point writes to the result, over the two shifted reads `z1`, `z2`. -/
def rowsOut (x0 : Vec Ideal S1x512x1024 .f32) (x1 : Vec Ideal S1x6x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S1x1024 .f32)
    (z1 z2 : Vec Ideal S512x1024 .f32) : Vec Ideal S1x512x1024 .f32 :=
  let r0 := View.ld x1 (Rect.unit ![0, 0, 0] S1x1x1024.size inb_S1x6x1024_S1x1x1024_0_0_0)
  let r1 := View.ld x1 (Rect.unit ![0, 1, 0] S1x1x1024.size inb_S1x6x1024_S1x1x1024_0_1_0)
  let r2 := View.ld x1 (Rect.unit ![0, 2, 0] S1x1x1024.size inb_S1x6x1024_S1x1x1024_0_2_0)
  let w0 := View.ld x3 (Rect.unit ![0, 0] S1x1024.size inb_S3x1024_S1x1024_0_0)
  let w1 := View.ld x3 (Rect.unit ![1, 0] S1x1024.size inb_S3x1024_S1x1024_1_0)
  let w2 := View.ld x3 (Rect.unit ![2, 0] S1x1024.size inb_S3x1024_S1x1024_2_0)
  k0_pay1 (k0_pay9 x6) (k0_pay10 x7)
    (k0_pay11 (k0_pay4 x0) (k0_pay5 r2) (k0_pay6 x0 r0 r1 x2) (k0_pay7 x0 r0 r1 x2) z1 z2 w0 w1 w2 x4 x5)
    (k0_pay12 (k0_pay4 x0) (k0_pay5 r2) (k0_pay6 x0 r0 r1 x2) (k0_pay7 x0 r0 r1 x2) z1 z2 w0 w1 w2 x4 x5)
    (k0_pay13 (F := Ideal))

/-- Only rows 0 to 7 of what came before matter. -/
theorem shiftRows_congr (k : Nat) (hk : k ≤ 8) (h h' : Vec Ideal S520x1024 .f32) (z : Vec Ideal S512x1024 .f32)
    (e : ∀ y : S520x1024.Idx, (y 0).val < 8 → h y = h' y) : shiftRows k h z = shiftRows k h' z := by
  funext y
  unfold shiftRows
  split
  · exact e _ (by show (8 - k + (y 0).val) % 520 < 8; rw [Nat.mod_eq_of_lt (by omega)]; omega)
  · rfl

/-- Rows of zeros. -/
def zeroRows : Vec Ideal S520x1024 .f32 := fun _ => (0 : EReal)

/-- A scratch buffer whose rows 0 to 7 are set to zero reads zero there. -/
theorem read_zeroed (v : View sig .tc .vmem S520x1024 .f32) (f : v.ty.Contents (Elt Ideal))
    (inb : ∀ a : Fin 2, (![0, 0] : Fin 2 → Nat) a + S8x1024.size a ≤ S520x1024.size a) (y : S520x1024.Idx) (hy : (y 0).val < 8) :
    v.read (Elt Ideal) (v.writes (Elt Ideal) f [⟨Rect.unit (s := S520x1024) ![0, 0] S8x1024.size inb, k0_pay3 (F := Ideal)⟩]) y = zeroRows y := by
  have h1 : (y 1).val < 1024 := (y 1).isLt
  rw [View.read_writes_cons_unit_of_mem v f inb (k0_pay3 (F := Ideal)) [] y (ix2 (⟨(y 0).val, hy⟩ : Fin 8) (⟨(y 1).val, h1⟩ : Fin 1024)) rfl (fun a => by
    match a with
    | ⟨0, _⟩ => exact (Nat.zero_add _).symm
    | ⟨1, _⟩ => exact (Nat.zero_add _).symm)]
  unfold k0_pay3
  rw [shapeCast_self]
  exact Ideal.ofBits_zero_f32

/-- Reading rows 512 to 519 of the scratch buffer reads the block's last eight rows. -/
theorem readCov_tail (v : View sig .tc .vmem S520x1024 .f32) (z : Vec Ideal S512x1024 .f32)
    (L : List (View.Piece (Elt Ideal) S520x1024 .f32))
    (inb8 : ∀ a : Fin 2, (![8, 0] : Fin 2 → Nat) a + S512x1024.size a ≤ S520x1024.size a)
    (inb : ∀ a : Fin 2, (![512, 0] : Fin 2 → Nat) a + S8x1024.size a ≤ S520x1024.size a) (x : S8x1024.Idx) :
    v.readCov (⟨Rect.unit (s := S520x1024) ![8, 0] S512x1024.size inb8, z⟩ :: L)
        (Rect.unit (s := S520x1024) ![512, 0] S8x1024.size inb).toLoadRect x
      = z (ix2 (⟨(504 + (x 0).val) % 512, Nat.mod_lt _ (by decide)⟩ : Fin 512) (x 1 : Fin 1024)) := by
  have h0 : (x 0).val < 8 := (x 0).isLt
  rw [View.readCov_eq_canon', ← View.read_writes_junk_eq_canon v]
  exact View.read_writes_cons_unit_of_mem v _ inb8 z L _ _ rfl (fun a => by
      match a with
      | ⟨0, _⟩ => show 512 + 1 * (x 0).val = 8 + (504 + (x 0).val) % 512; rw [Nat.mod_eq_of_lt (by omega)]; omega
      | ⟨1, _⟩ => show 0 + 1 * (x 1).val = 0 + (x 1).val; omega)

/-- After its rows 512 to 519 are copied to its rows 0 to 7, the scratch buffer holds there the block's last rows. -/
theorem canon_tail (v : View sig .tc .vmem S520x1024 .f32) (z : Vec Ideal S512x1024 .f32)
    (L L' : List (View.Piece (Elt Ideal) S520x1024 .f32))
    (inb0 : ∀ a : Fin 2, (![0, 0] : Fin 2 → Nat) a + S8x1024.size a ≤ S520x1024.size a)
    (inb8 : ∀ a : Fin 2, (![8, 0] : Fin 2 → Nat) a + S512x1024.size a ≤ S520x1024.size a)
    (inb : ∀ a : Fin 2, (![512, 0] : Fin 2 → Nat) a + S8x1024.size a ≤ S520x1024.size a) (y : S520x1024.Idx) (hy : (y 0).val < 8) :
    View.canon (Val := Elt Ideal) (⟨Rect.unit (s := S520x1024) ![0, 0] S8x1024.size inb0,
        k0_pay2 (v.readCov (⟨Rect.unit (s := S520x1024) ![8, 0] S512x1024.size inb8, z⟩ :: L)
          (Rect.unit (s := S520x1024) ![512, 0] S8x1024.size inb).toLoadRect)⟩ :: L') y
      = z (ix2 (⟨(504 + (y 0).val) % 512, Nat.mod_lt _ (by decide)⟩ : Fin 512) (y 1 : Fin 1024)) := by
  have h1 : (y 1).val < 1024 := (y 1).isLt
  rw [← View.read_writes_junk_eq_canon v]
  rw [View.read_writes_cons_unit_of_mem v _ inb0 _ L' y (ix2 (⟨(y 0).val, hy⟩ : Fin 8) (⟨(y 1).val, h1⟩ : Fin 1024)) rfl (fun a => by
    match a with
    | ⟨0, _⟩ => exact (Nat.zero_add _).symm
    | ⟨1, _⟩ => exact (Nat.zero_add _).symm)]
  unfold k0_pay2
  rw [shapeCast_self, readCov_tail]
  rfl

theorem pay8_eq (v3 : Vec Ideal S1x512x1024 .f32) (v5 v7 : Vec Ideal S1x1x1024 .f32) (v18 : Vec Ideal S1024x3072 .bf16) :
    k0_pay8 v3 v5 v7 v18 = k0_pay7 v3 v5 v7 v18 := shapeCast_self _ _

/-- A point that is not the first of its sequence: its output block, over what the scratch buffer held. -/
theorem out_B (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x1024 .f32) (harg11 : arg11.IsWhole) (hc0 : ¬cond0_0 i)
    (x0 : Vec Ideal S1x512x1024 .f32) (x1 : Vec Ideal S1x6x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S1x1024 .f32) (xs0 : Vec Ideal S520x1024 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0
      = rowsOut x0 x1 x2 x3 x4 x5 x6 x7 (shiftRows 1 xs0 (rowProd x0 x1 x2)) (shiftRows 2 xs0 (rowProd x0 x1 x2)) := by
  unfold out0_B_8
  rw [View.read_writes_junk_eq_canon]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x512x1024) hz3, View.ld_unit_zero (S := S1024x3072) hz2, View.ld_unit_zero (S := S1x1024) hz2, View.ld_unit_zero (S := S1024x1024) hz2, pay8_eq]
  rw [ld_shift arg11.view _ _ [] 1 (by decide) rfl, ld_shift arg11.view _ _ [] 2 (by decide) rfl, View.writes_nil, harg11.read_unread]
  rfl

/-- The first point of a sequence: its output block, over rows of zeros. -/
theorem out_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x1024 .f32) (harg11 : arg11.IsWhole) (hc0 : cond0_0 i)
    (x0 : Vec Ideal S1x512x1024 .f32) (x1 : Vec Ideal S1x6x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S1x1024 .f32) :
    out0_A_8 c i arg2 harg2 arg3 harg3 arg4 harg4 arg5 harg5 arg6 harg6 arg7 harg7 arg8 harg8 arg9 harg9 arg10 harg10 arg11 harg11 hc0 x0 x1 x2 x3 x4 x5 x6 x7
      = rowsOut x0 x1 x2 x3 x4 x5 x6 x7 (shiftRows 1 zeroRows (rowProd x0 x1 x2)) (shiftRows 2 zeroRows (rowProd x0 x1 x2)) := by
  unfold out0_A_8
  rw [View.read_writes_junk_eq_canon]
  unfold kernelRun0_A
  dsimp only
  sl_unfold_words
  rw [View.canon_unit_zero hz3]
  unfold View.readCov
  simp only [View.readAt_eq_ld, harg2.read_unread, harg3.read_unread, harg4.read_unread, harg5.read_unread, harg6.read_unread, harg7.read_unread, harg8.read_unread, harg9.read_unread, View.ld_unit_zero (S := S1x512x1024) hz3, View.ld_unit_zero (S := S1024x3072) hz2, View.ld_unit_zero (S := S1x1024) hz2, View.ld_unit_zero (S := S1024x1024) hz2, pay8_eq]
  rw [ld_shift arg11.view _ _ _ 1 (by decide) rfl, ld_shift arg11.view _ _ _ 2 (by decide) rfl,
    shiftRows_congr 1 (by decide) _ zeroRows _ (read_zeroed arg11.view _ _),
    shiftRows_congr 2 (by decide) _ zeroRows _ (read_zeroed arg11.view _ _)]
  rfl

/-- The first point of a sequence: rows 0 to 7 of the scratch buffer afterwards. -/
theorem tail_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x1024 .f32) (harg11 : arg11.IsWhole) (hc0 : cond0_0 i)
    (x0 : Vec Ideal S1x512x1024 .f32) (x1 : Vec Ideal S1x6x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S1x1024 .f32)
    (y : S520x1024.Idx) (hy : (y 0).val < 8) :
    sout0_A_0 c i arg2 harg2 arg3 harg3 arg4 harg4 arg5 harg5 arg6 harg6 arg7 harg7 arg8 harg8 arg9 harg9 arg10 harg10 arg11 harg11 hc0 x0 x1 x2 x3 x4 x5 x6 x7 y
      = rowProd x0 x1 x2 (ix2 (⟨(504 + (y 0).val) % 512, Nat.mod_lt _ (by decide)⟩ : Fin 512) (y 1 : Fin 1024)) := by
  unfold sout0_A_0
  rw [View.read_writes_junk_eq_canon]
  unfold kernelRun0_A
  dsimp only
  sl_unfold_words
  rw [canon_tail arg11.view _ _ _ _ _ _ y hy]
  simp only [View.readAt_eq_ld, harg2.read_unread, harg3.read_unread, harg4.read_unread, harg5.read_unread, harg6.read_unread, harg7.read_unread, harg8.read_unread, harg9.read_unread, View.ld_unit_zero (S := S1x512x1024) hz3, View.ld_unit_zero (S := S1024x3072) hz2, View.ld_unit_zero (S := S1x1024) hz2, View.ld_unit_zero (S := S1024x1024) hz2, pay8_eq]
  rfl

/-- A point that is not the first of its sequence: rows 0 to 7 of the scratch buffer afterwards. -/
theorem tail_B (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x1024 .f32) (harg11 : arg11.IsWhole) (hc0 : ¬cond0_0 i)
    (x0 : Vec Ideal S1x512x1024 .f32) (x1 : Vec Ideal S1x6x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S1x1024 .f32) (xs0 : Vec Ideal S520x1024 .f32)
    (y : S520x1024.Idx) (hy : (y 0).val < 8) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 y
      = rowProd x0 x1 x2 (ix2 (⟨(504 + (y 0).val) % 512, Nat.mod_lt _ (by decide)⟩ : Fin 512) (y 1 : Fin 1024)) := by
  unfold sout0_B_0
  rw [View.read_writes_junk_eq_canon]
  unfold kernelRun0_B
  dsimp only
  sl_unfold_words
  rw [canon_tail arg11.view _ _ _ _ _ _ y hy]
  simp only [View.readAt_eq_ld, harg2.read_unread, harg3.read_unread, harg4.read_unread, harg5.read_unread, harg6.read_unread, harg7.read_unread, harg8.read_unread, harg9.read_unread, View.ld_unit_zero (S := S1x512x1024) hz3, View.ld_unit_zero (S := S1024x3072) hz2, View.ld_unit_zero (S := S1x1024) hz2, View.ld_unit_zero (S := S1024x1024) hz2, pay8_eq]
  rfl

end Cert.KernelIdeal.Conv

end
-- ==== Proof.Conv.Rows.lean ====
module

public import proofs.«01_k».proof.Proof.Conv.Body
public import proofs.«01_k».proof.Proof.Gen.ReferenceIdeal.Read
public import Idealize.ShloMosaic.Lib.Pointwise

/-! What a point of the first kernel computes, entry by entry, against the values of the reference: the three channels
(`chan_eq`), the product of two of them (`prod_eq`) and the whole output block (`block_eq`). -/

@[expose] public section

set_option maxRecDepth 16384

noncomputable section

namespace Cert.KernelIdeal.Conv

open Idealize.ShloMosaic Idealize.ShloMosaic.TcCoe Idealize.SL.Sem
open Cert.KernelIdeal Cert.KernelIdeal.Gen
open Cert.ReferenceIdeal.Read

/-- Row `r` of block `j` of a sequence. -/
def row (j : Fin 8) (r : Fin 512) : Fin 4096 := ⟨512 * j.val + r.val, by omega⟩

/-- The three channels of a row: the modulated row times the input weights. -/
theorem chan_eq (X : Vec Ideal S4x4096x1024 .f32) (M : Vec Ideal S4x6x1024 .f32) (W : Vec Ideal S1024x3072 .f32)
    (x0 : Vec Ideal S1x512x1024 .f32) (x1 : Vec Ideal S1x6x1024 .f32) (x2 : Vec Ideal S1024x3072 .bf16) (b : Fin 4) (j : Fin 8)
    (h0 : ∀ (r : Fin 512) (k : Fin 1024), x0 (ix3 0 r k) = X (ix3 b (row j r) k))
    (h1 : ∀ (a : Fin 6) (k : Fin 1024), x1 (ix3 0 a k) = M (ix3 b a k))
    (h2 : ∀ (k : Fin 1024) (n : Fin 3072), x2 (ix2 k n) = W (ix2 k n)) (r : Fin 512) (n : Fin 3072) :
    k0_pay6 x0 (View.ld x1 (Rect.unit ![0, 0, 0] S1x1x1024.size inb_S1x6x1024_S1x1x1024_0_0_0))
      (View.ld x1 (Rect.unit ![0, 1, 0] S1x1x1024.size inb_S1x6x1024_S1x1x1024_0_1_0)) x2 (ix2 r n)
      = val_main_v9 (F := Ideal) X M W (ix3 b (row j r) n) := by
  pointwise [k0_pay6, k0_pay4, val_main_v9, val_main_v8, val_main_v7, val_main_v6, val_main_v5, val_main_v4, val_main_v3, val_main_v1, val_main_v0, val_main_cst]
  simp only [h0, h1, h2]

/-- The product of the second and third channels, at a row of block `j`. -/
theorem prod_eq (X : Vec Ideal S4x4096x1024 .f32) (M : Vec Ideal S4x6x1024 .f32) (W : Vec Ideal S1024x3072 .f32)
    (x0 : Vec Ideal S1x512x1024 .f32) (x1 : Vec Ideal S1x6x1024 .f32) (x2 : Vec Ideal S1024x3072 .bf16) (b : Fin 4) (j : Fin 8)
    (h0 : ∀ (r : Fin 512) (k : Fin 1024), x0 (ix3 0 r k) = X (ix3 b (row j r) k))
    (h1 : ∀ (a : Fin 6) (k : Fin 1024), x1 (ix3 0 a k) = M (ix3 b a k))
    (h2 : ∀ (k : Fin 1024) (n : Fin 3072), x2 (ix2 k n) = W (ix2 k n)) (r : Fin 512) (d : Fin 1024) :
    rowProd x0 x1 x2 (ix2 r d) = val_main_v13 (F := Ideal) X M W (ix3 b (row j r) d) := by
  have e := fun n => chan_eq X M W x0 x1 x2 b j h0 h1 h2 r n
  unfold rowProd
  pointwise [k0_pay7, val_main_v13, val_main_v12, val_main_v11]
  simp only [e]

/-- The output block of block `j` is the reference's result there, where `z1` and `z2` are the product's rows one and two
    before. The proof goes by the rows before the layer normalization (`hpre`). -/
theorem block_eq (X : Vec Ideal S4x4096x1024 .f32) (M : Vec Ideal S4x6x1024 .f32) (W : Vec Ideal S1024x3072 .f32)
    (C : Vec Ideal S3x1024 .f32) (B : Vec Ideal S1024 .f32) (W' : Vec Ideal S1024x1024 .f32) (G L : Vec Ideal S1024 .f32)
    (x0 : Vec Ideal S1x512x1024 .f32) (x1 : Vec Ideal S1x6x1024 .f32) (x2 : Vec Ideal S1024x3072 .bf16)
    (x3 : Vec Ideal S3x1024 .f32) (x4 : Vec Ideal S1x1024 .f32) (x5 : Vec Ideal S1024x1024 .bf16)
    (x6 : Vec Ideal S1x1024 .f32) (x7 : Vec Ideal S1x1024 .f32) (z1 z2 : Vec Ideal S512x1024 .f32) (b : Fin 4) (j : Fin 8)
    (h0 : ∀ (r : Fin 512) (k : Fin 1024), x0 (ix3 0 r k) = X (ix3 b (row j r) k))
    (h1 : ∀ (a : Fin 6) (k : Fin 1024), x1 (ix3 0 a k) = M (ix3 b a k))
    (h2 : ∀ (k : Fin 1024) (n : Fin 3072), x2 (ix2 k n) = W (ix2 k n))
    (h3 : ∀ (a : Fin 3) (k : Fin 1024), x3 (ix2 a k) = C (ix2 a k))
    (h4 : ∀ (k : Fin 1024), x4 (ix2 0 k) = B (ix1 k))
    (h5 : ∀ (k n : Fin 1024), x5 (ix2 k n) = W' (ix2 k n))
    (h6 : ∀ (k : Fin 1024), x6 (ix2 0 k) = G (ix1 k))
    (h7 : ∀ (k : Fin 1024), x7 (ix2 0 k) = L (ix1 k))
    (hz1 : ∀ (r : Fin 512) (k : Fin 1024), z1 (ix2 r k) = val_main_v25 (F := Ideal) X M W (ix3 b (row j r) k))
    (hz2 : ∀ (r : Fin 512) (k : Fin 1024), z2 (ix2 r k) = val_main_v17 (F := Ideal) X M W (ix3 b (row j r) k))
    (hz : ∀ (t : Fin 4096) (k : Fin 1024), val_main_v32 (F := Ideal) X M W (ix3 b t k) = val_main_v13 (F := Ideal) X M W (ix3 b t k))
    (r : Fin 512) (d : Fin 1024) :
    rowsOut x0 x1 x2 x3 x4 x5 x6 x7 z1 z2 (ix3 0 r d) = val_main_v70 (F := Ideal) X M W C B W' G L (ix3 b (row j r) d) := by
  have e := fun r n => chan_eq X M W x0 x1 x2 b j h0 h1 h2 r n
  have e7 := fun r n => prod_eq X M W x0 x1 x2 b j h0 h1 h2 r n
  unfold rowProd at e7
  unfold rowsOut
  dsimp only
  generalize k0_pay6 x0 _ _ x2 = P6 at *
  generalize k0_pay7 x0 _ _ x2 = P7 at *
  have hpre : ∀ n : Fin 1024, Ideal.ofBits FTy.f32 1068827891#32 * x0 (ix3 0 r n) + x1 (ix3 0 2 n) *
      ∑ k : Fin 1024, P6 (ix2 r ⟨k.val, by omega⟩) * (x3 (ix2 0 k) * z2 (ix2 r k) + x3 (ix2 1 k) * z1 (ix2 r k)
        + x3 (ix2 2 k) * P7 (ix2 r k) + x4 (ix2 0 k)) * x5 (ix2 k n)
      = val_main_v46 (F := Ideal) X M W C B W' (ix3 b (row j r) n) := fun n => by
    pointwise [val_main_v46, val_main_v45, val_main_v44, val_main_v43, val_main_v42, val_main_v41, val_main_v40, val_main_v39, val_main_v38, val_main_v37, val_main_v36, val_main_v35, val_main_v34, val_main_v33, val_main_v31, val_main_v30, val_main_v29, val_main_v28, val_main_v27, val_main_v26, val_main_v24, val_main_v23, val_main_v22, val_main_v21, val_main_v20, val_main_v19, val_main_v18, val_main_v16, val_main_v15, val_main_v10, val_main_v2, val_main_cst_0, val_main_cst_1]
    simp only [e, e7, h0, h1, h3, h4, h5, hz1, hz2, hz, zero_add]
  pointwise [k0_pay1, k0_pay4, k0_pay5, k0_pay9, k0_pay10, k0_pay11, k0_pay12, k0_pay13, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_2, val_main_cst_3, val_main_cst_4, val_main_cst_5, val_main_cst_6]
  simp only [hpre, h6, h7]

end Cert.KernelIdeal.Conv

end
-- ==== Proof.Conv.Shift.lean ====
module

public import proofs.«01_k».proof.Proof.Conv.Rows

/-! The reference's three taps: the product padded by two rows of zeros, read from rows 0, 1 and 2 on. -/

@[expose] public section

set_option maxRecDepth 16384

noncomputable section

namespace Cert.KernelIdeal.Conv

open Idealize.ShloMosaic Idealize.ShloMosaic.TcCoe Idealize.SL.Sem
open Cert.KernelIdeal Cert.KernelIdeal.Gen
open Cert.ReferenceIdeal.Read

variable (X : Vec Ideal S4x4096x1024 .f32) (M : Vec Ideal S4x6x1024 .f32) (W : Vec Ideal S1024x3072 .f32)

/-- The padded product read at its own row is the product. -/
theorem shift0 (b : Fin 4) (t : Fin 4096) (d : Fin 1024) :
    val_main_v32 (F := Ideal) X M W (ix3 b t d) = val_main_v13 (F := Ideal) X M W (ix3 b t d) := by
  pointwise [val_main_v32, val_main_v14, val_main_call0_v0, val_main_c]

/-- The padding value is zero. -/
theorem pad_zero : (FloatOps.sitofp FTy.f32 (0 : BitVec 32) : Ideal FTy.f32) = 0 := by
  show (((0 : BitVec 32).toInt : ℝ) : EReal) = 0
  simp

/-- Read one row early it is zero at the first row of a sequence, else the row before. -/
theorem shift1 (b : Fin 4) (t : Fin 4096) (d : Fin 1024) :
    val_main_v25 (F := Ideal) X M W (ix3 b t d) = if h : t.val < 1 then 0 else val_main_v13 (F := Ideal) X M W (ix3 b ⟨t.val - 1, by omega⟩ d) := by
  pointwise [val_main_v25, val_main_v14, val_main_call0_v0, val_main_c]
  split
  · rw [dif_neg (by omega)]
    exact congrArg (val_main_v13 (F := Ideal) X M W) (congrArg (ix3 b · d) (Fin.ext (by show 1 + t.val - 2 = t.val - 1; omega)))
  · rw [dif_pos (by omega)]; exact pad_zero

/-- Read two rows early it is zero at the first two rows of a sequence, else two rows before. -/
theorem shift2 (b : Fin 4) (t : Fin 4096) (d : Fin 1024) :
    val_main_v17 (F := Ideal) X M W (ix3 b t d) = if h : t.val < 2 then 0 else val_main_v13 (F := Ideal) X M W (ix3 b ⟨t.val - 2, by omega⟩ d) := by
  pointwise [val_main_v17, val_main_v14, val_main_call0_v0, val_main_c]
  split
  · rw [dif_neg (by omega)]
  · rw [dif_pos (by omega)]; exact pad_zero

end Cert.KernelIdeal.Conv

end
-- ==== Proof.Conv.Blocks.lean ====
module

public import proofs.«01_k».proof.Proof.Conv.Shift

/-! The blocks the point of block `j` of sequence `b` reads, entry by entry, as the kernel's arguments: `blkK` is the
block of operand `K`. -/

@[expose] public section

set_option maxRecDepth 16384

noncomputable section

namespace Cert.KernelIdeal.Conv

open Idealize.ShloMosaic Idealize.ShloMosaic.TcCoe Idealize.SL.Sem
open Cert.KernelIdeal Cert.KernelIdeal.Gen

variable (m : (ℓ : Loc nD τ sig) → Buf (Elt Ideal) ℓ)

/-- The block indices: the sequence, the block of 512 rows in it, the whole of every weight. -/
theorem idx : ∀ t : Fin grid0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] := by decide +kernel

/-- The point of block `j` of sequence `b`. -/
def pt (b : Fin 4) (j : Fin 8) : Fin cfg0.N := ⟨8 * b.val + j.val, by rw [show cfg0.N = 32 from N_0]; omega⟩

/-- The point's sequence. -/
theorem pt_div (b : Fin 4) (j : Fin 8) : (pt b j).val / 8 = b.val := by show (8 * b.val + j.val) / 8 = b.val; omega
/-- The point's block in its sequence. -/
theorem pt_mod (b : Fin 4) (j : Fin 8) : (pt b j).val % 8 = j.val := by show (8 * b.val + j.val) % 8 = j.val; omega

variable (c : Dev nD) (b : Fin 4) (j : Fin 8)

/-- Operand 0: 512 rows of the sequence. -/
theorem blk0 (r : Fin 512) (k : Fin 1024) :
    iblk m c 0 (pt b j) (ix3 0 r k) = m ((c : Thread nD τ).loc main_arg0) (ix3 b (row j r) k) := by
  have hd := pt_div b j
  have hm := pt_mod b j
  unfold row
  blk_ext! [iblk, V, idx (pt b j)]

/-- Operand 1: the six modulation rows of the sequence. -/
theorem blk1 (a : Fin 6) (k : Fin 1024) :
    iblk m c 1 (pt b j) (ix3 0 a k) = m ((c : Thread nD τ).loc main_arg1) (ix3 b a k) := by
  have hd := pt_div b j
  blk_ext! [iblk, V, idx (pt b j)]

/-- Operand 2: the input weights. -/
theorem blk2 (k : Fin 1024) (n : Fin 3072) :
    iblk m c 2 (pt b j) (ix2 k n) = m ((c : Thread nD τ).loc main_arg2) (ix2 k n) := by
  blk_ext! [iblk, V, idx (pt b j)]

/-- Operand 3: the three taps' weights. -/
theorem blk3 (a : Fin 3) (k : Fin 1024) :
    iblk m c 3 (pt b j) (ix2 a k) = m ((c : Thread nD τ).loc main_arg3) (ix2 a k) := by
  blk_ext! [iblk, V, idx (pt b j)]

/-- Operand 4: the convolution's bias. -/
theorem blk4 (k : Fin 1024) :
    iblk m c 4 (pt b j) (ix2 0 k) = m ((c : Thread nD τ).loc main_arg4) (ix1 k) := by
  blk_ext! [iblk, V, idx (pt b j)]

/-- Operand 5: the output weights. -/
theorem blk5 (k n : Fin 1024) :
    iblk m c 5 (pt b j) (ix2 k n) = m ((c : Thread nD τ).loc main_arg5) (ix2 k n) := by
  blk_ext! [iblk, V, idx (pt b j)]

/-- Operand 6: the layer norm's scale. -/
theorem blk6 (k : Fin 1024) :
    iblk m c 6 (pt b j) (ix2 0 k) = m ((c : Thread nD τ).loc main_arg6) (ix1 k) := by
  blk_ext! [iblk, V, idx (pt b j)]

/-- Operand 7: the layer norm's offset. -/
theorem blk7 (k : Fin 1024) :
    iblk m c 7 (pt b j) (ix2 0 k) = m ((c : Thread nD τ).loc main_arg7) (ix1 k) := by
  blk_ext! [iblk, V, idx (pt b j)]

end Cert.KernelIdeal.Conv

end
-- ==== Proof.Conv.Value.lean ====
module

public import proofs.«01_k».proof.Proof.Gen.KernelIdeal.Value
public import proofs.«01_k».proof.Proof.Conv.Blocks

/-! The first kernel's array of results is the reference's, entry by entry. -/

@[expose] public section

set_option maxRecDepth 16384

noncomputable section

namespace Cert.KernelIdeal.Conv

open Idealize.ShloMosaic Idealize.ShloMosaic.TcCoe Idealize.SL.Sem
open Cert.KernelIdeal Cert.KernelIdeal.Gen Cert.KernelIdeal.Value
open Cert.ReferenceIdeal.Read

variable (m : (ℓ : Loc nD τ sig) → Buf (Elt Ideal) ℓ) (c : Dev nD)

/-- The gated product the reference convolves, at the kernel's arguments. -/
abbrev prodVal : Vec Ideal S4x4096x1024 .f32 :=
  val_main_v13 (F := Ideal) (m ((c : Thread nD τ).loc main_arg0)) (m ((c : Thread nD τ).loc main_arg1)) (m ((c : Thread nD τ).loc main_arg2))

/-- The reference's result at the kernel's arguments. -/
abbrev refVal : Vec Ideal S4x4096x1024 .f32 :=
  val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The kernel's product rows at block `j` of sequence `b`. -/
theorem rowProd_blk (b : Fin 4) (j : Fin 8) (r : Fin 512) (k : Fin 1024) :
    rowProd (iblk m c 0 (pt b j)) (iblk m c 1 (pt b j)) (iblk m c 2 (pt b j)) (ix2 r k) = prodVal m c (ix3 b (row j r) k) :=
  prod_eq _ _ _ _ _ _ b j (blk0 m c b j) (blk1 m c b j) (blk2 m c b j) r k

/-- What a point leaves depends on its number alone. -/
theorem outsAt_congr {n n' : ℕ} (e : n = n') (h : n < cfg0.N) : outsAt0 m c n h = outsAt0 m c n' (e ▸ h) := by
  subst e; rfl

/-- After the point of block `j` the first 8 scratch rows hold that block's last 8 product rows. -/
theorem tail_pt (b : Fin 4) (j : Fin 8) (y : S520x1024.Idx) (hy : (y 0).val < 8) :
    (outsAt0 m c (pt b j).val (pt b j).isLt).2 y
      = prodVal m c (ix3 b (row j ⟨(504 + (y 0).val) % 512, Nat.mod_lt _ (by decide)⟩) (y 1 : Fin 1024)) := by
  refine Eq.trans ?_ (rowProd_blk m c b j _ _)
  by_cases h : (pt b j).val % 8 = 0
  · rw [outsAt0_A m c _ h]
    dsimp only
    rw [tail_A (hy := hy)]
  · rw [outsAt0_B m c _ h]
    dsimp only
    rw [tail_B (hy := hy)]

/-- The output block left by the point of block `j`, given what the shifted rows are. -/
theorem out_of (b : Fin 4) (j : Fin 8) (z1 z2 : Vec Ideal S512x1024 .f32)
    (hz1 : ∀ (r : Fin 512) (k : Fin 1024), z1 (ix2 r k) = if h : (row j r).val < 1 then 0 else prodVal m c (ix3 b ⟨(row j r).val - 1, by omega⟩ k))
    (hz2 : ∀ (r : Fin 512) (k : Fin 1024), z2 (ix2 r k) = if h : (row j r).val < 2 then 0 else prodVal m c (ix3 b ⟨(row j r).val - 2, by omega⟩ k))
    (r : Fin 512) (d : Fin 1024) :
    rowsOut (iblk m c 0 (pt b j)) (iblk m c 1 (pt b j)) (iblk m c 2 (pt b j)) (iblk m c 3 (pt b j)) (iblk m c 4 (pt b j)) (iblk m c 5 (pt b j)) (iblk m c 6 (pt b j)) (iblk m c 7 (pt b j)) z1 z2 (ix3 0 r d)
      = refVal m c (ix3 b (row j r) d) :=
  block_eq _ _ _ _ _ _ _ _ _ _ _ _ _ _ _ _ z1 z2 b j (blk0 m c b j) (blk1 m c b j) (blk2 m c b j) (blk3 m c b j) (blk4 m c b j)
    (blk5 m c b j) (blk6 m c b j) (blk7 m c b j) (fun r k => (hz1 r k).trans (shift1 _ _ _ b _ k).symm)
    (fun r k => (hz2 r k).trans (shift2 _ _ _ b _ k).symm) (shift0 _ _ _ b) r d

/-- Rows shifted down by `s` are the product `s` rows before, given what lies above the block's first row. -/
theorem shift_of (s : Nat) (hs : s ≤ 8) (b : Fin 4) (j : Fin 8) (h : Vec Ideal S520x1024 .f32)
    (hh : ∀ (r : Fin 512) (k : Fin 1024) (y : S520x1024.Idx), r.val < s → (y 0).val = 8 - s + r.val → y 1 = k →
      h y = if h : (row j r).val < s then 0 else prodVal m c (ix3 b ⟨(row j r).val - s, by omega⟩ k))
    (r : Fin 512) (k : Fin 1024) :
    shiftRows s h (rowProd (iblk m c 0 (pt b j)) (iblk m c 1 (pt b j)) (iblk m c 2 (pt b j))) (ix2 r k)
      = if h : (row j r).val < s then 0 else prodVal m c (ix3 b ⟨(row j r).val - s, by omega⟩ k) := by
  unfold shiftRows
  have hr : ((ix2 r k : S512x1024.Idx) 0).val = r.val := rfl
  by_cases hrs : r.val < s
  · rw [if_pos (by rw [hr]; exact hrs)]
    exact hh r k _ hrs (by show (8 - s + r.val) % 520 = _; exact Nat.mod_eq_of_lt (by omega)) rfl
  · rw [if_neg (by rw [hr]; exact hrs)]
    have hw : (row j r).val = 512 * j.val + r.val := rfl
    rw [dif_neg (by omega)]
    refine (rowProd_blk m c b j _ k).trans ?_
    refine congrArg (prodVal m c) (congrArg (ix3 b · k) (Fin.ext ?_))
    show 512 * j.val + (r.val - s) % 512 = 512 * j.val + r.val - s
    rw [Nat.mod_eq_of_lt (by omega)]; omega

/-- Above the first block of a sequence lie rows of zeros. -/
theorem halo_zero (s : Nat) (b : Fin 4) (j : Fin 8) (hj : j.val = 0) (r : Fin 512) (k : Fin 1024) (y : S520x1024.Idx) (hr : r.val < s) :
    zeroRows y = if h : (row j r).val < s then (0 : EReal) else prodVal m c (ix3 b ⟨(row j r).val - s, by omega⟩ k) := by
  have hw : (row j r).val = 512 * j.val + r.val := rfl
  rw [dif_pos (by omega)]; rfl

/-- Above any other block lie the last rows of the block before. -/
theorem halo_prev (s : Nat) (hs : s ≤ 8) (b : Fin 4) (j : Fin 8) (hj : j.val ≠ 0) (hlt : (pt b j).val - 1 < cfg0.N)
    (r : Fin 512) (k : Fin 1024) (y : S520x1024.Idx) (hr : r.val < s) (hy : (y 0).val = 8 - s + r.val) (hk : y 1 = k) :
    (outsAt0 m c ((pt b j).val - 1) hlt).2 y
      = if h : (row j r).val < s then (0 : EReal) else prodVal m c (ix3 b ⟨(row j r).val - s, by omega⟩ k) := by
  have hw : (row j r).val = 512 * j.val + r.val := rfl
  have e : (pt b j).val - 1 = (pt b ⟨j.val - 1, by omega⟩).val := by
    show 8 * b.val + j.val - 1 = 8 * b.val + (j.val - 1); omega
  have e2 : (outsAt0 m c ((pt b j).val - 1) hlt).2 = (outsAt0 m c (pt b ⟨j.val - 1, by omega⟩).val (pt b _).isLt).2 := by
    rw [outsAt_congr m c e]
  rw [dif_neg (by omega), e2, tail_pt m c b _ y (by omega)]
  subst hk
  refine congrArg (prodVal m c) (congrArg (ix3 b · (y 1 : Fin 1024)) (Fin.ext ?_))
  show 512 * (j.val - 1) + (504 + (y 0).val) % 512 = 512 * j.val + r.val - s
  rw [Nat.mod_eq_of_lt (by omega)]; omega

/-- The output block left by the point of block `j` of sequence `b`. -/
theorem out_pt (b : Fin 4) (j : Fin 8) (r : Fin 512) (d : Fin 1024) :
    (outsAt0 m c (pt b j).val (pt b j).isLt).1 (ix3 0 r d) = refVal m c (ix3 b (row j r) d) := by
  have hm := pt_mod b j
  by_cases h : (pt b j).val % 8 = 0
  · rw [outsAt0_A m c _ h]
    dsimp only
    rw [out_A]
    have hj : j.val = 0 := by omega
    exact out_of m c b j _ _ (shift_of m c 1 (by decide) b j _ fun r k y hr _ _ => halo_zero m c 1 b j hj r k y hr)
      (shift_of m c 2 (by decide) b j _ fun r k y hr _ _ => halo_zero m c 2 b j hj r k y hr) r d
  · rw [outsAt0_B m c _ h]
    dsimp only
    rw [out_B]
    have hj : j.val ≠ 0 := by omega
    exact out_of m c b j _ _ (shift_of m c 1 (by decide) b j _ fun r k y hr hy hk => halo_prev m c 1 (by decide) b j hj _ r k y hr hy hk)
      (shift_of m c 2 (by decide) b j _ fun r k y hr hy hk => halo_prev m c 2 (by decide) b j hj _ r k y hr hy hk) r d

/-- The kernel's result is the reference's. -/
theorem result_eq : G8 m c = refVal m c := by
  funext i
  obtain ⟨b, s, d, rfl⟩ : ∃ (b : Fin 4) (s : Fin 4096) (d : Fin 1024), i = ix3 b s d := ⟨i 0, i 1, i 2, (ix3_eta i).symm⟩
  obtain ⟨j, r, rfl⟩ : ∃ (j : Fin 8) (r : Fin 512), s = row j r :=
    ⟨⟨s.val / 512, by omega⟩, ⟨s.val % 512, by omega⟩, Fin.ext (by show s.val = 512 * (s.val / 512) + s.val % 512; omega)⟩
  have hw : (row j r).val = 512 * j.val + r.val := rfl
  have hp : pt8Of (ix3 b (row j r) d) = (pt b j).val := by
    show 8 * (b.val / 1 - 0) + 1 * ((row j r).val / 512 - 0) + 1 * (d.val / 1024 - 0) = 8 * b.val + j.val
    omega
  have hl : loc8Of (ix3 b (row j r) d) = ix3 0 r d := by
    funext a
    fin_cases a
    · exact Fin.ext (show b.val % 1 = 0 by omega)
    · exact Fin.ext (show (row j r).val % 512 = r.val by omega)
    · exact Fin.ext (show d.val % 1024 = d.val by omega)
  unfold G8
  rw [dif_pos (by rw [hp]; exact (pt b j).isLt), ← outsAt0_sweep m c _ (by rw [hp]; exact (pt b j).isLt), hl, ← out_pt, outsAt_congr m c hp]

end Cert.KernelIdeal.Conv

end
-- ==== Proof.Conv.Claims.lean ====
module

public import proofs.«01_k».proof.Defs
public import proofs.«01_k».proof.Proof.Gen.Kernel.Frame
public import proofs.«01_k».proof.Proof.Gen.ReferenceIdeal.Run
public import proofs.«01_k».proof.Proof.Conv.Value

/-! The five claims about the short gated convolution mixer. -/

@[expose] public section

noncomputable section

namespace Cert.Conv

open Idealize.ShloMosaic Idealize.ShloMosaic.TcCoe Idealize.SL.Sem

/-- The kernel on the hardware's numbers ends, its arguments unchanged. -/
theorem frame_kernel : Cert.quiescent_Kernel := fun m ρ _ => Cert.Kernel.Gen.frame m ρ

/-- The kernel on extended reals ends, its arguments unchanged. -/
theorem frame_ideal : Cert.quiescent_KernelIdeal := fun m ρ _ => Cert.KernelIdeal.Gen.frame m ρ

/-- The reference's result, as its run states it, is the last of its values. -/
theorem result_reference (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v70 m c
      = Cert.ReferenceIdeal.Read.val_main_v70 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.Value.res_main_v70
  rfl

/-- The reference ends, its arguments unchanged. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- Kernel and reference end with equal results. -/
theorem algebraic : Cert.algebraic_KernelIdeal_ReferenceIdeal := fun m ρ m' ρ' _ hag =>
  ⟨fun c => Cert.KernelIdeal.Conv.refVal m c,
    (θ_run _ _ _).mono (fun _ h c => ⟨(h c).1.trans (Cert.KernelIdeal.Conv.result_eq m c), (h c).2⟩) (Cert.KernelIdeal.Value.run m ρ),
    (θ_run _ _ _).mono (fun _ h c => ⟨(h c).1.trans ((result_reference m' c).trans (by
      obtain ⟨e0, e1, e2, e3, e4, e5, e6, e7⟩ := hag c
      rw [e0, e1, e2, e3, e4, e5, e6, e7])), (h c).2⟩) (Cert.ReferenceIdeal.Value.run m' ρ')⟩

end Cert.Conv

end
-- ==== Proof.Experts.Stages.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-!
The body of the expert kernel, cut into its five guarded stages, each a program with the rest of the
body as its continuation: at the first tile bring the first expert's gate-up weights into their slot;
bring the next tile's gate-up weights into the other slot; bring this tile's down weights; multiply the
tile; or write zeros on a tile that is not in use.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The table of the tiles' experts. -/
abbrev tbM0 : Memref sig .tc .smem S80 .i32 := Memref.whole main_arg0
/-- The table that marks the first tile of each run of tiles with one expert. -/
abbrev tbM1 : Memref sig .tc .smem S80 .i32 := Memref.whole main_v5
/-- The table of the slot each tile's gate-up weights lie in. -/
abbrev tbM2 : Memref sig .tc .smem S80 .i32 := Memref.whole main_v9
/-- The number of tiles in use. -/
abbrev tbM3 : Memref sig .tc .smem S1 .i32 := Memref.whole main_arg1

section

variable (i : grid0.Coords)
  (arg5 : Memref sig .tc .vmem S4096x128 .f32) (harg5 : arg5.IsWhole)
  (arg6 : Memref sig .tc .vmem S1x1x1024x1024 .f32) (harg6 : arg6.IsWhole)
  (arg7 : Memref sig .tc .vmem S1x1x1024x1024 .f32) (harg7 : arg7.IsWhole)
  (arg8 : Memref sig .tc .vmem S1x1x512x1024 .f32) (harg8 : arg8.IsWhole)
  (arg9 : Memref sig .tc .vmem S4096x128 .f32) (harg9 : arg9.IsWhole)
  (arg10 : Memref sig .tc .vmem S2x1024x1024 .bf16) (harg10 : arg10.IsWhole)
  (arg11 : Memref sig .tc .vmem S512x1024 .bf16) (harg11 : arg11.IsWhole)

/-- The gate-up weights of the first tile go to their slot. -/
def stage1 (k : Prog (TpuEff nD τ sig (Elt F) Λ₀ .tc) PUnit) : Prog (TpuEff nD τ sig (Elt F) Λ₀ .tc) PUnit :=
  if k0_h1 : k0_cond1 i = 1#1 then do
    let v27 : Vec F S1x1x1024x1024 .f32 ← Prog.lift (.load arg6 (Rect.unit (s := S1x1x1024x1024) ![0, 0, 0, 0] S1x1x1024x1024.size inb_S1x1x1024x1024_S1x1x1024x1024_0_0_0_0).toLoadRect (View.loadsAt_vmem h_S1x1x1024x1024))
    let v30 : Elt F .i32 ← smemLoad tbM2 (Rect.unit (s := S80) ![0] S1.size inb_S80_S1_0) numel1_S1 rfl
    have k0_hw1 : k0_chk1 i v30 := (← Prog.lift (TpuEff.assume (k0_chk1 i v30) (k0_chk1.dec i v30))).down
    let v32 : Vec F S1x1024x1024 .bf16 ← Prog.lift (.load arg10 (Rect.unit (s := S2x1024x1024) (k0_off3 v30) S1x1024x1024.size (k0_off3_inb i v30 k0_hw1 k0_h1)).toLoadRect (View.loadsAt_vmem h_S1x1024x1024))
    Prog.lift (.store arg10 (Rect.unit (s := S2x1024x1024) (k0_off3 v30) S1x1024x1024.size (k0_off3_inb i v30 k0_hw1 k0_h1)) (k0_pay1 v27) Finset.univ (View.stores_vmem h_S1x1024x1024 (harg10.storeExact_slice rfl _ (k0_off3_packedbf16 i v30 k0_hw1 k0_h1)) (fun _ => rfl)) (.inl rfl))
    k
  else k

/-- The gate-up weights of the next tile go to its slot, if its expert is new. -/
def stage2 (v8 v11 : Elt F .i32) (k : Prog (TpuEff nD τ sig (Elt F) Λ₀ .tc) PUnit) : Prog (TpuEff nD τ sig (Elt F) Λ₀ .tc) PUnit :=
  if k0_h2 : k0_cond2 i v8 v11 = 1#1 then do
    let v27 : Vec F S1x1x1024x1024 .f32 ← Prog.lift (.load arg7 (Rect.unit (s := S1x1x1024x1024) ![0, 0, 0, 0] S1x1x1024x1024.size inb_S1x1x1024x1024_S1x1x1024x1024_0_0_0_0).toLoadRect (View.loadsAt_vmem h_S1x1x1024x1024))
    let v31 : Elt F .i32 ← smemLoad tbM2 (Rect.unit (s := S80) (k0_off4 i) S1.size (k0_off4_inb i)) numel1_S1 rfl
    have k0_hw2 : k0_chk2 i v8 v11 v31 := (← Prog.lift (TpuEff.assume (k0_chk2 i v8 v11 v31) (k0_chk2.dec i v8 v11 v31))).down
    let v33 : Vec F S1x1024x1024 .bf16 ← Prog.lift (.load arg10 (Rect.unit (s := S2x1024x1024) (k0_off5 v31) S1x1024x1024.size (k0_off5_inb i v8 v11 v31 k0_hw2 k0_h2)).toLoadRect (View.loadsAt_vmem h_S1x1024x1024))
    Prog.lift (.store arg10 (Rect.unit (s := S2x1024x1024) (k0_off5 v31) S1x1024x1024.size (k0_off5_inb i v8 v11 v31 k0_hw2 k0_h2)) (k0_pay2 v27) Finset.univ (View.stores_vmem h_S1x1024x1024 (harg10.storeExact_slice rfl _ (k0_off5_packedbf16 i v8 v11 v31 k0_hw2 k0_h2)) (fun _ => rfl)) (.inl rfl))
    k
  else k

/-- The down weights of this tile, if its expert is new. -/
def stage3 (v21 : BitVec 1) (k : Prog (TpuEff nD τ sig (Elt F) Λ₀ .tc) PUnit) : Prog (TpuEff nD τ sig (Elt F) Λ₀ .tc) PUnit :=
  if v21 = 1#1 then do
    let v27 : Vec F S1x1x512x1024 .f32 ← Prog.lift (.load arg8 (Rect.unit (s := S1x1x512x1024) ![0, 0, 0, 0] S1x1x512x1024.size inb_S1x1x512x1024_S1x1x512x1024_0_0_0_0).toLoadRect (View.loadsAt_vmem h_S1x1x512x1024))
    let v30 : Vec F S512x1024 .bf16 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay3 v27) Finset.univ (View.stores_vmem h_S512x1024 (harg11.storeExact_slice rfl _ packedbf16_S512x1024_S512x1024_0_0) (fun _ => rfl)) (.inl rfl))
    k
  else k

/-- The product of a tile in use. -/
def stage4 (v0 : Elt F .i32) (k : Prog (TpuEff nD τ sig (Elt F) Λ₀ .tc) PUnit) : Prog (TpuEff nD τ sig (Elt F) Λ₀ .tc) PUnit :=
  if k0_h4 : k0_cond4 i v0 = 1#1 then do
    let ⟨v50, v55⟩ : Σ' (v50 : FVec F S512x1024 .f32), FVec F S512x128 .f32 ← k0_part1 i tbM0 (Memref.isWhole_whole _) tbM1 (Memref.isWhole_whole _) tbM2 (Memref.isWhole_whole _) tbM3 (Memref.isWhole_whole _) arg5 harg5 arg6 harg6 arg7 harg7 arg8 harg8 arg9 harg9 arg10 harg10 arg11 harg11 (BitVec.ofNat 32 (i 0).val) v0 k0_h4
    let v56 : Vec F S512x128 .f32 ← Prog.lift (.load arg9 (⟨![2, 0], S512x128.size, ![8, 1], inb_S4096x128_S512x128_2_0_s_8_1⟩ : LoadRect S4096x128) (View.loadsAt_vmem h_S512x128))
    Prog.lift (.store arg9 ⟨(⟨![2, 0], S512x128.size, ![8, 1], inb_S4096x128_S512x128_2_0_s_8_1⟩ : LoadRect S4096x128), spos_8_1⟩ v55 Finset.univ (View.stores_vmem_bits_univ h_S512x128 rfl) (.inl rfl))
    let v58 : Vec F S512x128 .f32 ← Prog.lift (.load arg9 (⟨![3, 0], S512x128.size, ![8, 1], inb_S4096x128_S512x128_3_0_s_8_1⟩ : LoadRect S4096x128) (View.loadsAt_vmem h_S512x128))
    Prog.lift (.store arg9 ⟨(⟨![3, 0], S512x128.size, ![8, 1], inb_S4096x128_S512x128_3_0_s_8_1⟩ : LoadRect S4096x128), spos_8_1⟩ (k0_pay4 v50) Finset.univ (View.stores_vmem_bits_univ h_S512x128 rfl) (.inl rfl))
    let v60 : Vec F S512x128 .f32 ← Prog.lift (.load arg9 (⟨![4, 0], S512x128.size, ![8, 1], inb_S4096x128_S512x128_4_0_s_8_1⟩ : LoadRect S4096x128) (View.loadsAt_vmem h_S512x128))
    Prog.lift (.store arg9 ⟨(⟨![4, 0], S512x128.size, ![8, 1], inb_S4096x128_S512x128_4_0_s_8_1⟩ : LoadRect S4096x128), spos_8_1⟩ (k0_pay5 v50) Finset.univ (View.stores_vmem_bits_univ h_S512x128 rfl) (.inl rfl))
    let v62 : Vec F S512x128 .f32 ← Prog.lift (.load arg9 (⟨![5, 0], S512x128.size, ![8, 1], inb_S4096x128_S512x128_5_0_s_8_1⟩ : LoadRect S4096x128) (View.loadsAt_vmem h_S512x128))
    Prog.lift (.store arg9 ⟨(⟨![5, 0], S512x128.size, ![8, 1], inb_S4096x128_S512x128_5_0_s_8_1⟩ : LoadRect S4096x128), spos_8_1⟩ (k0_pay6 v50) Finset.univ (View.stores_vmem_bits_univ h_S512x128 rfl) (.inl rfl))
    let v64 : Vec F S512x128 .f32 ← Prog.lift (.load arg9 (⟨![6, 0], S512x128.size, ![8, 1], inb_S4096x128_S512x128_6_0_s_8_1⟩ : LoadRect S4096x128) (View.loadsAt_vmem h_S512x128))
    Prog.lift (.store arg9 ⟨(⟨![6, 0], S512x128.size, ![8, 1], inb_S4096x128_S512x128_6_0_s_8_1⟩ : LoadRect S4096x128), spos_8_1⟩ (k0_pay7 v50) Finset.univ (View.stores_vmem_bits_univ h_S512x128 rfl) (.inl rfl))
    let v66 : Vec F S512x128 .f32 ← Prog.lift (.load arg9 (⟨![7, 0], S512x128.size, ![8, 1], inb_S4096x128_S512x128_7_0_s_8_1⟩ : LoadRect S4096x128) (View.loadsAt_vmem h_S512x128))
    Prog.lift (.store arg9 ⟨(⟨![7, 0], S512x128.size, ![8, 1], inb_S4096x128_S512x128_7_0_s_8_1⟩ : LoadRect S4096x128), spos_8_1⟩ (k0_pay8 v50) Finset.univ (View.stores_vmem_bits_univ h_S512x128 rfl) (.inl rfl))
    k
  else k

/-- Zeros on a tile not in use. -/
def stage5 (v0 : Elt F .i32) (k : Prog (TpuEff nD τ sig (Elt F) Λ₀ .tc) PUnit) : Prog (TpuEff nD τ sig (Elt F) Λ₀ .tc) PUnit :=
  if k0_h5 : k0_cond5 i v0 = 1#1 then do
    let v28 : Vec F S4096x128 .f32 ← Prog.lift (.load arg9 (Rect.unit (s := S4096x128) ![0, 0] S4096x128.size inb_S4096x128_S4096x128_0_0).toLoadRect (View.loadsAt_vmem h_S4096x128))
    Prog.lift (.store arg9 (Rect.unit (s := S4096x128) ![0, 0] S4096x128.size inb_S4096x128_S4096x128_0_0) (k0_pay9 (F := F)) Finset.univ (View.stores_vmem_bits_univ h_S4096x128 rfl) (.inl rfl))
    k
  else k

/-- The whole body: the stages one after the other, with the table words they read. -/
def staged : Prog (TpuEff nD τ sig (Elt F) Λ₀ .tc) PUnit := do
  let v0 : Elt F .i32 ← smemLoad tbM3 (Rect.unit (s := S1) ![0] S1.size inb_S1_S1_0) numel1_S1 rfl
  stage1 i arg6 arg10 harg10 (do
    let v8 : Elt F .i32 ← smemLoad tbM3 (Rect.unit (s := S1) ![0] S1.size inb_S1_S1_0) numel1_S1 rfl
    let v11 : Elt F .i32 ← smemLoad tbM1 (Rect.unit (s := S80) (k0_off1 i) S1.size (k0_off1_inb i)) numel1_S1 rfl
    stage2 i arg7 arg10 harg10 v8 v11 (do
      let v17 : Elt F .i32 ← smemLoad tbM1 (Rect.unit (s := S80) (k0_off6 i) S1.size (k0_off6_inb i)) numel1_S1 rfl
      stage3 arg8 arg11 harg11 (Scalar.cmpi .ne (Scalar.extui (Scalar.andi (Scalar.cmpi .slt (BitVec.ofNat 32 (i 0).val) v0) (Scalar.cmpi .eq v17 1#32))) 0#32)
        (stage4 i arg5 harg5 arg6 harg6 arg7 harg7 arg8 harg8 arg9 harg9 arg10 harg10 arg11 harg11 v0 (stage5 i arg9 v0 (pure ⟨⟩)))))

/-- The printed body is the stages. -/
theorem skel_eq_staged :
    cc0_moe_experts_skel (F := F) i tbM0 (Memref.isWhole_whole _) tbM1 (Memref.isWhole_whole _) tbM2 (Memref.isWhole_whole _) tbM3 (Memref.isWhole_whole _)
      arg5 harg5 arg6 harg6 arg7 harg7 arg8 harg8 arg9 harg9 arg10 harg10 arg11 harg11
    = staged i arg5 harg5 arg6 harg6 arg7 harg7 arg8 harg8 arg9 harg9 arg10 harg10 arg11 harg11 := rfl

end

end Cert.Experts

end
-- ==== Proof.Experts.StageRuns.lean ====
module

public import proofs.«01_k».proof.Proof.Experts.Stages
public import Idealize.ShloMosaic.Lib.Pointwise

/-!
What each stage of the expert kernel's body leaves: the run of every stage, over the contents of the
windows it reads and of the two scratch buffers, for any float arithmetic.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a table on a device. -/
abbrev TbBuf (c : Dev nD) {S : Shape} {e : EltTy} (M : Memref sig .tc .smem S e) : Type := Buf (Elt F) (M.view.loc (c : Thread nD τ))
/-- The right half share of a table, with its contents. -/
abbrev tbPt (c : Dev nD) {S : Shape} {e : EltTy} (M : Memref sig .tc .smem S e) (f : TbBuf (F := F) c M) : sProp 𝕄 :=
  M.view.loc (c : Thread nD τ) ↦{fullShare.right} f

/-- The word of a table of eighty at a place. -/
def word (c : Dev nD) (M : Memref sig .tc .smem S80 .i32) (f : TbBuf (F := F) c M) (n : Fin 80) : BitVec 32 :=
  M.view.read (Elt F) f (ix1 n)

/-- The word of the table of one word. -/
def word1 (c : Dev nD) (M : Memref sig .tc .smem S1 .i32) (f : TbBuf (F := F) c M) : BitVec 32 :=
  M.view.read (Elt F) f (ix1 0)

/-- A load of one word of a table is the table's word. -/
theorem word_at (c : Dev nD) (M : Memref sig .tc .smem S80 .i32) (f : TbBuf (F := F) c M) (off : Fin 1 → ℕ) (inb)
    (n : Fin 80) (hn : off 0 = n.val) (h : 0 < (Rect.unit (s := S80) off S1.size inb).toLoadRect.shape.numel) :
    M.view.readAt (Elt F) (Rect.unit (s := S80) off S1.size inb).toLoadRect f (Shape.Idx.first h) = word c M f n := by
  rw [View.readAt_apply]
  unfold word
  congr 1
  funext a
  obtain rfl : a = 0 := Subsingleton.elim _ _
  apply Fin.ext
  show off 0 + 1 * 0 = n.val
  omega

/-- A load of the only word of a table is that word. -/
theorem word1_at (c : Dev nD) (M : Memref sig .tc .smem S1 .i32) (f : TbBuf (F := F) c M) (inb)
    (h : 0 < (Rect.unit (s := S1) ![0] S1.size inb).toLoadRect.shape.numel) :
    M.view.readAt (Elt F) (Rect.unit (s := S1) ![0] S1.size inb).toLoadRect f (Shape.Idx.first h) = word1 c M f := by
  rw [View.readAt_apply]
  unfold word1
  congr 1
  funext a
  match a with
  | ⟨0, _⟩ => rfl

/-- The scratch of two slots after one slot is written. -/
def putSlot (s0 : Vec F S2x1024x1024 .bf16) (p : ℕ) (w : Vec F S1x1024x1024 .bf16) : Vec F S2x1024x1024 .bf16 :=
  VecWindow.put s0 ![p, 0, 0] S1x1024x1024.size w

section

variable (c : Dev nD) (i : grid0.Coords)
  (arg5 : Memref sig .tc .vmem S4096x128 .f32) (harg5 : arg5.IsWhole)
  (arg6 : Memref sig .tc .vmem S1x1x1024x1024 .f32) (harg6 : arg6.IsWhole)
  (arg7 : Memref sig .tc .vmem S1x1x1024x1024 .f32) (harg7 : arg7.IsWhole)
  (arg8 : Memref sig .tc .vmem S1x1x512x1024 .f32) (harg8 : arg8.IsWhole)
  (arg9 : Memref sig .tc .vmem S4096x128 .f32) (harg9 : arg9.IsWhole)
  (arg10 : Memref sig .tc .vmem S2x1024x1024 .bf16) (harg10 : arg10.IsWhole)
  (arg11 : Memref sig .tc .vmem S512x1024 .bf16) (harg11 : arg11.IsWhole)
  (k : Prog (TpuEff nD τ sig (Elt F) Λ₀ .tc) PUnit)

/-- The run of a program of the body on a device. -/
abbrev runs (p : Prog (TpuEff nD τ sig (Elt F) Λ₀ .tc) PUnit) (K : sProp 𝕄) : sProp 𝕄 :=
  wp frame (wpE (defs₀ (F := F)) Variants.none c none) Set.univ p (fun _ => K)

include harg6 in
/-- The first stage, taken: the first slot named by the slot table holds the rounded weights. -/
theorem stage1_taken (K : sProp 𝕄) (hc : k0_cond1 i = 1#1) (x1 : Vec F S1x1x1024x1024 .f32) (s0 : Vec F S2x1024x1024 .bf16) (xt2 : TbBuf (F := F) c tbM2)
    (p : ℕ) (hp : k0_off3 (word c tbM2 xt2 0) = ![p, 0, 0]) (hk : k0_chk1 i (word c tbM2 xt2 0)) :
    iprop(owns (c : Thread nD τ) arg6 fullShare x1 ∗ owns (c : Thread nD τ) arg10 fullShare s0 ∗ tbPt c tbM2 xt2
      ∗ (iprop(owns (c : Thread nD τ) arg6 fullShare x1 ∗ owns (c : Thread nD τ) arg10 fullShare (putSlot s0 p (k0_pay1 x1)) ∗ tbPt c tbM2 xt2)
          -∗ runs c k K))
    ⊢ runs c (stage1 i arg6 arg10 harg10 k) K := by
  have hw := word_at c tbM2 xt2 ![0] inb_S80_S1_0 0 rfl
  have hk' : ∀ v, v = word c tbM2 xt2 0 → k0_chk1 i v := by rintro _ rfl; exact hk
  unfold runs stage1 owns
  iintro ⟨⟨%f0, %hf0, H0⟩, ⟨%f1, %hf1, H1⟩, HT, Hk⟩
  obtain rfl := harg6.eq_unread hf0
  obtain rfl := harg10.eq_unread hf1
  sl_exec (disch := first | sl_exact hc | (apply hk'; exact hw _))
  iapply Hk
  isplitl [H0]
  · iexists _
    isplitr
    swap
    · iexact H0
    · ipureintro; exact harg6.read_unread _
  isplitl [H1]
  · iexists _
    isplitr
    swap
    · iexact H1
    · ipureintro
      rw [View.read_writes_cons_put _ _ _ _ _ ((congrArg k0_off3 (hw _)).trans hp), View.readAt_full, harg6.read_unread, View.writes_nil, harg10.read_unread]
      rfl
  iexact HT

include harg7 in
/-- The second stage, taken: the next tile's slot holds the rounded weights. -/
theorem stage2_taken (K : sProp 𝕄) (v8 v11 : Elt F .i32) (hc : k0_cond2 i v8 v11 = 1#1) (x2 : Vec F S1x1x1024x1024 .f32) (s0 : Vec F S2x1024x1024 .bf16)
    (xt2 : TbBuf (F := F) c tbM2) (n : Fin 80) (hn : k0_off4 i 0 = n.val) (p : ℕ) (hp : k0_off5 (word c tbM2 xt2 n) = ![p, 0, 0])
    (hk : k0_chk2 i v8 v11 (word c tbM2 xt2 n)) :
    iprop(owns (c : Thread nD τ) arg7 fullShare x2 ∗ owns (c : Thread nD τ) arg10 fullShare s0 ∗ tbPt c tbM2 xt2
      ∗ (iprop(owns (c : Thread nD τ) arg7 fullShare x2 ∗ owns (c : Thread nD τ) arg10 fullShare (putSlot s0 p (k0_pay2 x2)) ∗ tbPt c tbM2 xt2)
          -∗ runs c k K))
    ⊢ runs c (stage2 i arg7 arg10 harg10 v8 v11 k) K := by
  have hw := word_at c tbM2 xt2 (k0_off4 i) (k0_off4_inb i) n hn
  have hk' : ∀ v, v = word c tbM2 xt2 n → k0_chk2 i v8 v11 v := by rintro _ rfl; exact hk
  unfold runs stage2 owns
  iintro ⟨⟨%f0, %hf0, H0⟩, ⟨%f1, %hf1, H1⟩, HT, Hk⟩
  obtain rfl := harg7.eq_unread hf0
  obtain rfl := harg10.eq_unread hf1
  sl_exec (disch := first | sl_exact hc | (apply hk'; exact hw _))
  iapply Hk
  isplitl [H0]
  · iexists _
    isplitr
    swap
    · iexact H0
    · ipureintro; exact harg7.read_unread _
  isplitl [H1]
  · iexists _
    isplitr
    swap
    · iexact H1
    · ipureintro
      rw [View.read_writes_cons_put _ _ _ _ _ ((congrArg k0_off5 (hw _)).trans hp), View.readAt_full, harg7.read_unread, View.writes_nil, harg10.read_unread]
      rfl
  iexact HT

include harg8 harg11 in
/-- The third stage, taken: the second scratch holds the rounded down weights. -/
theorem stage3_taken (K : sProp 𝕄) (v21 : BitVec 1) (hc : v21 = 1#1) (x3 : Vec F S1x1x512x1024 .f32) (s1 : Vec F S512x1024 .bf16) :
    iprop(owns (c : Thread nD τ) arg8 fullShare x3 ∗ owns (c : Thread nD τ) arg11 fullShare s1
      ∗ (iprop(owns (c : Thread nD τ) arg8 fullShare x3 ∗ owns (c : Thread nD τ) arg11 fullShare (k0_pay3 x3)) -∗ runs c k K))
    ⊢ runs c (stage3 arg8 arg11 harg11 v21 k) K := by
  unfold runs stage3 owns
  iintro ⟨⟨%f0, %hf0, H0⟩, ⟨%f1, %hf1, H1⟩, Hk⟩
  obtain rfl := harg8.eq_unread hf0
  obtain rfl := harg11.eq_unread hf1
  sl_exec (disch := first | sl_exact hc)
  iapply Hk
  isplitl [H0]
  · iexists _
    isplitr
    swap
    · iexact H0
    · ipureintro; exact harg8.read_unread _
  iexists _
  isplitr
  swap
  · iexact H1
  · ipureintro
    rw [View.read_writes_full, View.readAt_full, harg8.read_unread]

include harg9 in
/-- The fifth stage, taken: the tile is zeros. -/
theorem stage5_taken (K : sProp 𝕄) (v0 : Elt F .i32) (hc : k0_cond5 i v0 = 1#1) (x : Vec F S4096x128 .f32) :
    iprop(owns (c : Thread nD τ) arg9 fullShare x
      ∗ (iprop(owns (c : Thread nD τ) arg9 fullShare (k0_pay9 (F := F))) -∗ runs c k K))
    ⊢ runs c (stage5 i arg9 v0 k) K := by
  unfold runs stage5 owns
  iintro ⟨⟨%f0, %hf0, H0⟩, Hk⟩
  obtain rfl := harg9.eq_unread hf0
  sl_exec (disch := first | sl_exact hc)
  iapply Hk
  iexists _
  isplitr
  swap
  · iexact H0
  · ipureintro
    rw [View.read_writes_full]

/-- Every eighth row of a tile, from the row named. -/
def plane (x : Vec F S4096x128 .f32) (r : Fin 8) : Vec F S512x128 .f32 :=
  fun j => x (ix2 ⟨r.val + 8 * (j 0).val, by have : (j 0).val < 512 := (j 0).isLt; have := r.isLt; omega⟩ (j 1))

/-- The product of a tile with the weights in the scratch: the eight planes side by side, through the two products. -/
def prodTile (x : Vec F S4096x128 .f32) (w40 : Vec F S1x1024x1024 .bf16) (w49 : Vec F S512x1024 .bf16) : Vec F S512x1024 .f32 :=
  k0_pay10 (plane x 0) (plane x 1) (plane x 2) (plane x 3) (plane x 4) (plane x 5) (plane x 6) (plane x 7) w40 w49

/-- A matrix of 512 rows of eight planes, laid out with the planes as rows. -/
def spread (g : Vec F S512x1024 .f32) : Vec F S4096x128 .f32 :=
  fun y => g (ix2 ⟨(y 0).val / 8, by have : (y 0).val < 4096 := (y 0).isLt; omega⟩
    ⟨(y 0).val % 8 * 128 + (y 1).val, by have : (y 1).val < 128 := (y 1).isLt; omega⟩)

/-- A strided load of a tile is its plane. -/
theorem plane_at {sig' κ sp} (v : View sig' κ sp S4096x128 .f32) (f : v.ty.Contents (Elt F)) (r : Fin 8) (off : Fin 2 → ℕ)
    (hoff : off = ![r.val, 0]) (inb) :
    v.readAt (Elt F) (⟨off, S512x128.size, ![8, 1], inb⟩ : LoadRect S4096x128) f = plane (v.read (Elt F) f) r := by
  subst hoff
  funext j
  rw [View.readAt_apply]
  unfold plane
  congr 1
  funext a
  match a with
  | ⟨0, _⟩ => rfl
  | ⟨1, _⟩ => apply Fin.ext; show 0 + 1 * (j 1).val = (j 1).val; omega

/-- The columns of one plane of a matrix, cut out, are the plane of the matrix laid out. -/
theorem slice_spread (g : Vec F S512x1024 .f32) (r : Fin 8) (off : Fin 2 → ℕ) (hoff : off = ![0, r.val * 128]) (h)
    (roff : Fin 2 → ℕ) (hroff : roff = ![r.val, 0]) (inb) (hst) (x : S512x128.Idx) :
    extractStridedSlice S512x128 off g h x
      = spread g ((⟨(⟨roff, S512x128.size, ![8, 1], inb⟩ : LoadRect S4096x128), hst⟩ : Rect S4096x128).emb x) := by
  subst hoff hroff
  have h0 : (x 0).val < 512 := (x 0).isLt
  have h1 : (x 1).val < 128 := (x 1).isLt
  have hr := r.isLt
  unfold spread
  show g _ = g _
  congr 1
  funext a
  match a with
  | ⟨0, _⟩ => apply Fin.ext; show 0 + (x 0).val = (r.val + 8 * (x 0).val) / 8; omega
  | ⟨1, _⟩ => apply Fin.ext; show r.val * 128 + (x 1).val = (r.val + 8 * (x 0).val) % 8 * 128 + (0 + 1 * (x 1).val); omega

/-- A row of a tile lies in the plane of its remainder by eight. -/
theorem plane_mem (r : Fin 8) (roff : Fin 2 → ℕ) (hroff : roff = ![r.val, 0]) (inb) (hst) (y : S4096x128.Idx) (h : (y 0).val % 8 = r.val) :
    y ∈ (⟨(⟨roff, S512x128.size, ![8, 1], inb⟩ : LoadRect S4096x128), hst⟩ : Rect S4096x128).set := by
  subst hroff
  have h0 : (y 0).val < 4096 := (y 0).isLt
  rw [LoadRect.mem_set]
  intro a
  match a with
  | ⟨0, _⟩ => exact ⟨(y 0).val / 8, (by show (y 0).val / 8 < 512; omega), (by show (y 0).val = r.val + 8 * ((y 0).val / 8); omega)⟩
  | ⟨1, _⟩ => exact ⟨(y 1).val, (y 1).isLt, (by show (y 1).val = 0 + 1 * (y 1).val; omega)⟩

/-- The product is the same for the same operands. -/
theorem pay10_congr {a0 a1 a2 a3 a4 a5 a6 a7 b0 b1 b2 b3 b4 b5 b6 b7 : Vec F S512x128 .f32} {u u' : Vec F S1x1024x1024 .bf16} {w w' : Vec F S512x1024 .bf16}
    (h0 : a0 = b0) (h1 : a1 = b1) (h2 : a2 = b2) (h3 : a3 = b3) (h4 : a4 = b4) (h5 : a5 = b5) (h6 : a6 = b6) (h7 : a7 = b7) (hu : u = u') (hw : w = w') :
    k0_pay10 a0 a1 a2 a3 a4 a5 a6 a7 u w = k0_pay10 b0 b1 b2 b3 b4 b5 b6 b7 u' w' := by
  subst h0 h1 h2 h3 h4 h5 h6 h7 hu hw; rfl

/-- Eight strided stores of the planes of a matrix leave the matrix laid out. -/
theorem eight_planes {sig' κ sp} (v : View sig' κ sp S4096x128 .f32) (f : v.ty.Contents (Elt F)) (g : Vec F S512x1024 .f32) :
    v.read (Elt F) (v.writes (Elt F) f [
      ⟨⟨(⟨![7, 0], S512x128.size, ![8, 1], inb_S4096x128_S512x128_7_0_s_8_1⟩ : LoadRect S4096x128), spos_8_1⟩,
        extractStridedSlice S512x128 ![0, 896] g slices_S512x1024_o0_896_S512x128⟩,
      ⟨⟨(⟨![6, 0], S512x128.size, ![8, 1], inb_S4096x128_S512x128_6_0_s_8_1⟩ : LoadRect S4096x128), spos_8_1⟩,
        extractStridedSlice S512x128 ![0, 768] g slices_S512x1024_o0_768_S512x128⟩,
      ⟨⟨(⟨![5, 0], S512x128.size, ![8, 1], inb_S4096x128_S512x128_5_0_s_8_1⟩ : LoadRect S4096x128), spos_8_1⟩,
        extractStridedSlice S512x128 ![0, 640] g slices_S512x1024_o0_640_S512x128⟩,
      ⟨⟨(⟨![4, 0], S512x128.size, ![8, 1], inb_S4096x128_S512x128_4_0_s_8_1⟩ : LoadRect S4096x128), spos_8_1⟩,
        extractStridedSlice S512x128 ![0, 512] g slices_S512x1024_o0_512_S512x128⟩,
      ⟨⟨(⟨![3, 0], S512x128.size, ![8, 1], inb_S4096x128_S512x128_3_0_s_8_1⟩ : LoadRect S4096x128), spos_8_1⟩,
        extractStridedSlice S512x128 ![0, 384] g slices_S512x1024_o0_384_S512x128⟩,
      ⟨⟨(⟨![2, 0], S512x128.size, ![8, 1], inb_S4096x128_S512x128_2_0_s_8_1⟩ : LoadRect S4096x128), spos_8_1⟩,
        extractStridedSlice S512x128 ![0, 256] g slices_S512x1024_o0_256_S512x128⟩,
      ⟨⟨(⟨![1, 0], S512x128.size, ![8, 1], inb_S4096x128_S512x128_1_0_s_8_1⟩ : LoadRect S4096x128), spos_8_1⟩,
        extractStridedSlice S512x128 ![0, 128] g slices_S512x1024_o0_128_S512x128⟩,
      ⟨⟨(⟨![0, 0], S512x128.size, ![8, 1], inb_S4096x128_S512x128_0_0_s_8_1⟩ : LoadRect S4096x128), spos_8_1⟩,
        extractStridedSlice S512x128 ![0, 0] g slices_S512x1024_o0_0_S512x128⟩]) = spread g := by
  funext y
  refine View.read_writes_apply_of_pieces _ _ (spread g) _ ?_ y ?_
  · refine List.forall_mem_cons.mpr ⟨fun x => slice_spread _ 7 _ rfl slices_S512x1024_o0_896_S512x128 _ rfl inb_S4096x128_S512x128_7_0_s_8_1 spos_8_1 x, ?_⟩
    refine List.forall_mem_cons.mpr ⟨fun x => slice_spread _ 6 _ rfl slices_S512x1024_o0_768_S512x128 _ rfl inb_S4096x128_S512x128_6_0_s_8_1 spos_8_1 x, ?_⟩
    refine List.forall_mem_cons.mpr ⟨fun x => slice_spread _ 5 _ rfl slices_S512x1024_o0_640_S512x128 _ rfl inb_S4096x128_S512x128_5_0_s_8_1 spos_8_1 x, ?_⟩
    refine List.forall_mem_cons.mpr ⟨fun x => slice_spread _ 4 _ rfl slices_S512x1024_o0_512_S512x128 _ rfl inb_S4096x128_S512x128_4_0_s_8_1 spos_8_1 x, ?_⟩
    refine List.forall_mem_cons.mpr ⟨fun x => slice_spread _ 3 _ rfl slices_S512x1024_o0_384_S512x128 _ rfl inb_S4096x128_S512x128_3_0_s_8_1 spos_8_1 x, ?_⟩
    refine List.forall_mem_cons.mpr ⟨fun x => slice_spread _ 2 _ rfl slices_S512x1024_o0_256_S512x128 _ rfl inb_S4096x128_S512x128_2_0_s_8_1 spos_8_1 x, ?_⟩
    refine List.forall_mem_cons.mpr ⟨fun x => slice_spread _ 1 _ rfl slices_S512x1024_o0_128_S512x128 _ rfl inb_S4096x128_S512x128_1_0_s_8_1 spos_8_1 x, ?_⟩
    refine List.forall_mem_cons.mpr ⟨fun x => slice_spread _ 0 _ rfl slices_S512x1024_o0_0_S512x128 _ rfl inb_S4096x128_S512x128_0_0_s_8_1 spos_8_1 x, ?_⟩
    exact List.forall_mem_nil _
  · have hr : (y 0).val % 8 = 0 ∨ (y 0).val % 8 = 1 ∨ (y 0).val % 8 = 2 ∨ (y 0).val % 8 = 3 ∨ (y 0).val % 8 = 4 ∨ (y 0).val % 8 = 5
        ∨ (y 0).val % 8 = 6 ∨ (y 0).val % 8 = 7 := by omega
    rcases hr with h | h | h | h | h | h | h | h
    · exact ⟨_, .tail _ (.tail _ (.tail _ (.tail _ (.tail _ (.tail _ (.tail _ (.head _))))))), plane_mem 0 _ rfl _ _ y h⟩
    · exact ⟨_, .tail _ (.tail _ (.tail _ (.tail _ (.tail _ (.tail _ (.head _)))))), plane_mem 1 _ rfl _ _ y h⟩
    · exact ⟨_, .tail _ (.tail _ (.tail _ (.tail _ (.tail _ (.head _))))), plane_mem 2 _ rfl _ _ y h⟩
    · exact ⟨_, .tail _ (.tail _ (.tail _ (.tail _ (.head _)))), plane_mem 3 _ rfl _ _ y h⟩
    · exact ⟨_, .tail _ (.tail _ (.tail _ (.head _))), plane_mem 4 _ rfl _ _ y h⟩
    · exact ⟨_, .tail _ (.tail _ (.head _)), plane_mem 5 _ rfl _ _ y h⟩
    · exact ⟨_, .tail _ (.head _), plane_mem 6 _ rfl _ _ y h⟩
    · exact ⟨_, .head _, plane_mem 7 _ rfl _ _ y h⟩

include harg5 harg9 harg10 harg11 in
set_option maxHeartbeats 4000000 in
/-- The fourth stage, taken: the tile is the product of its rows with the weights in the scratch. -/
theorem stage4_taken (K : sProp 𝕄) (v0 : Elt F .i32) (hc : k0_cond4 i v0 = 1#1) (x0 : Vec F S4096x128 .f32) (s0 : Vec F S2x1024x1024 .bf16)
    (s1 : Vec F S512x1024 .bf16) (x : Vec F S4096x128 .f32) (xt2 : TbBuf (F := F) c tbM2) (n : Fin 80) (hn : k0_off7 i 0 = n.val)
    (p : ℕ) (hp : k0_off8 (word c tbM2 xt2 n) = ![p, 0, 0]) (hpb : ∀ a, ![p, 0, 0] a + S1x1024x1024.size a ≤ S2x1024x1024.size a)
    (hk : k0_chk3 i v0 (word c tbM2 xt2 n)) :
    iprop(owns (c : Thread nD τ) arg5 fullShare x0 ∗ owns (c : Thread nD τ) arg9 fullShare x ∗ owns (c : Thread nD τ) arg10 fullShare s0
      ∗ owns (c : Thread nD τ) arg11 fullShare s1 ∗ tbPt c tbM2 xt2
      ∗ (iprop(owns (c : Thread nD τ) arg5 fullShare x0
          ∗ owns (c : Thread nD τ) arg9 fullShare (spread (prodTile x0 (VecWindow.window s0 ![p, 0, 0] S1x1024x1024.size hpb) s1))
          ∗ owns (c : Thread nD τ) arg10 fullShare s0 ∗ owns (c : Thread nD τ) arg11 fullShare s1 ∗ tbPt c tbM2 xt2)
          -∗ runs c k K))
    ⊢ runs c (stage4 i arg5 harg5 arg6 harg6 arg7 harg7 arg8 harg8 arg9 harg9 arg10 harg10 arg11 harg11 v0 k) K := by
  have hw := word_at c tbM2 xt2 (k0_off7 i) (k0_off7_inb i) n hn
  have hk' : ∀ v, v = word c tbM2 xt2 n → k0_chk3 i v0 v := by rintro _ rfl; exact hk
  unfold runs stage4 owns
  simp only [k0_part1_eq_skeleton]
  unfold k0_part1_skel
  iintro ⟨⟨%f0, %hf0, H0⟩, ⟨%f1, %hf1, H1⟩, ⟨%f2, %hf2, H2⟩, ⟨%f3, %hf3, H3⟩, HT, Hk⟩
  obtain rfl := harg5.eq_unread hf0
  obtain rfl := harg9.eq_unread hf1
  obtain rfl := harg10.eq_unread hf2
  obtain rfl := harg11.eq_unread hf3
  sl_exec (disch := first | sl_exact hc | (apply hk'; exact hw _))
  iapply Hk
  isplitl [H0]
  · iexists _
    isplitr
    swap
    · iexact H0
    · ipureintro; exact harg5.read_unread _
  isplitl [H1]
  · iexists _
    isplitr
    swap
    · iexact H1
    · ipureintro
      have hq : ∀ (r : Fin 8) (off : Fin 2 → ℕ) (_ : off = ![r.val, 0]) (inb),
          arg5.view.readAt (Elt F) (⟨off, S512x128.size, ![8, 1], inb⟩ : LoadRect S4096x128) (harg5.unread x0) = plane x0 r :=
        fun r off ho inb => (plane_at _ _ r off ho inb).trans (by rw [harg5.read_unread])
      refine (eight_planes _ _ _).trans (congrArg spread ?_)
      exact pay10_congr (hq 0 _ rfl _) (hq 1 _ rfl _) (hq 2 _ rfl _) (hq 3 _ rfl _) (hq 4 _ rfl _) (hq 5 _ rfl _) (hq 6 _ rfl _) (hq 7 _ rfl _)
        ((View.readAt_unit (s := S2x1024x1024) (size := S1x1024x1024.size) _ _ _ ((congrArg k0_off8 (hw _)).trans hp) hpb).trans (by rw [harg10.read_unread]))
        ((View.readAt_full _ _ _).trans (harg11.read_unread _))
  isplitl [H2]
  · iexists _
    isplitr
    swap
    · iexact H2
    · ipureintro; exact harg10.read_unread _
  isplitl [H3]
  · iexists _
    isplitr
    swap
    · iexact H3
    · ipureintro; exact harg11.read_unread _
  iexact HT

end

end Cert.Experts

end
-- ==== Proof.Experts.Words.lean ====
module

public import proofs.«01_k».proof.Proof.Experts.StageRuns

/-!
The conditions and offsets the expert kernel's body computes from the table words, as facts about
natural numbers: the tile's index, the number of tiles in use, and the slot of a tile.
-/

@[expose] public section

set_option maxRecDepth 16384

noncomputable section

namespace Cert.Experts

open Cert.Kernel2Ideal Cert.Kernel2Ideal.Gen
open Idealize.ShloMosaic Idealize.ShloMosaic.WordCmp

/-- A bit widened and compared with zero is the bit. -/
theorem guard_eq : ∀ b : BitVec 1, Scalar.cmpi .ne (Scalar.extui b) 0#32 = b := by decide

theorem andi_eq_one : ∀ a b : BitVec 1, Scalar.andi a b = 1#1 ↔ a = 1#1 ∧ b = 1#1 := by decide

theorem xori_one : ∀ a : BitVec 1, Scalar.xori a 1#1 = 1#1 ↔ ¬ a = 1#1 := by decide

theorem cmpi_eq_one (x y : BitVec 32) : Scalar.cmpi .eq x y = 1#1 ↔ x = y := by
  rw [scalar_cmpi_eq, cmpi_eq_eq]
  by_cases h : x = y <;> simp [h]

/-- A tile's index is below eighty. -/
theorem coord_lt (i : grid0.Coords) : (i 0).val < 80 := (i 0).isLt

theorem slt_iff {a b : ℕ} (ha : a ≤ 80) (hb : b ≤ 80) : Scalar.cmpi .slt (BitVec.ofNat 32 a) (BitVec.ofNat 32 b) = 1#1 ↔ a < b :=
  cmpi_slt_ofNat_eq_one_iff (by omega) (by omega)

/-- The first stage is taken at the first tile. -/
theorem cond1_iff (i : grid0.Coords) : k0_cond1 i = 1#1 ↔ (i 0).val = 0 := by
  have h := coord_lt i
  unfold k0_cond1
  dsimp only
  rw [guard_eq, cmpi_eq_one]
  exact ofNat_eq_ofNat_iff (b := 0) (by omega) (by omega)

/-- The second stage is taken where the next tile is in use and its expert is new. -/
theorem cond2_iff (i : grid0.Coords) {nu : ℕ} (hnu : nu ≤ 80) (v : BitVec 32) :
    k0_cond2 i (BitVec.ofNat 32 nu) v = 1#1 ↔ (i 0).val + 1 < nu ∧ v = 1#32 := by
  have h := coord_lt i
  unfold k0_cond2
  dsimp only
  rw [guard_eq, andi_eq_one, cmpi_eq_one, show Scalar.addi (BitVec.ofNat 32 (i 0).val) 1#32 = BitVec.ofNat 32 ((i 0).val + 1) from addi_ofNat _ _,
    slt_iff (by omega) hnu]

/-- The third stage is taken where this tile is in use and its expert is new. -/
theorem cond3_iff (i : grid0.Coords) {nu : ℕ} (hnu : nu ≤ 80) (v : BitVec 32) :
    Scalar.cmpi .ne (Scalar.extui (Scalar.andi (Scalar.cmpi .slt (BitVec.ofNat 32 (i 0).val) (BitVec.ofNat 32 nu)) (Scalar.cmpi .eq v 1#32))) 0#32 = 1#1
      ↔ (i 0).val < nu ∧ v = 1#32 := by
  have h := coord_lt i
  rw [guard_eq, andi_eq_one, cmpi_eq_one, slt_iff (by omega) hnu]

/-- The fourth stage is taken where this tile is in use. -/
theorem cond4_iff (i : grid0.Coords) {nu : ℕ} (hnu : nu ≤ 80) : k0_cond4 i (BitVec.ofNat 32 nu) = 1#1 ↔ (i 0).val < nu := by
  have h := coord_lt i
  unfold k0_cond4
  dsimp only
  rw [guard_eq, slt_iff (by omega) hnu]

/-- The fifth stage is taken where it is not. -/
theorem cond5_iff (i : grid0.Coords) {nu : ℕ} (hnu : nu ≤ 80) : k0_cond5 i (BitVec.ofNat 32 nu) = 1#1 ↔ ¬ (i 0).val < nu := by
  have h := coord_lt i
  unfold k0_cond5
  dsimp only
  rw [guard_eq, xori_one, slt_iff (by omega) hnu]

/-- The next tile, the last one's next being itself. -/
def next (n : ℕ) : Fin 80 := ⟨min (n + 1) 79, by omega⟩

theorem off_next (n : ℕ) (h : n < 80) :
    (Scalar.indexCast (Scalar.minsi (Scalar.addi (BitVec.ofNat 32 n) 1#32) 79#32)).toNat = (next n).val := by
  rw [show Scalar.addi (BitVec.ofNat 32 n) 1#32 = BitVec.ofNat 32 (n + 1) from addi_ofNat _ _]
  unfold Scalar.indexCast Scalar.minsi IntOp.minsi next
  rw [BitVec.slt, toInt_ofNat_of_lt (by omega), show (79#32).toInt = 79 from rfl]
  by_cases h1 : n + 1 < 79
  · rw [if_pos (by simp; omega), toNat_ofNat_of_lt (by omega)]; simp; omega
  · rw [if_neg (by simp; omega)]; simp; omega

theorem off1_eq (i : grid0.Coords) : k0_off1 i 0 = (next (i 0).val).val := off_next _ (coord_lt i)
theorem off4_eq (i : grid0.Coords) : k0_off4 i 0 = (next (i 0).val).val := off_next _ (coord_lt i)

theorem off_here (n : ℕ) (h : n < 80) : (Scalar.indexCast (BitVec.ofNat 32 n)).toNat = n := by
  unfold Scalar.indexCast
  exact toNat_ofNat_of_lt (by omega)

theorem off6_eq (i : grid0.Coords) : k0_off6 i 0 = (i 0).val := off_here _ (coord_lt i)
theorem off7_eq (i : grid0.Coords) : k0_off7 i 0 = (i 0).val := off_here _ (coord_lt i)

/-- A slot's place in the scratch of two slots. -/
theorem slot_off {p : ℕ} (hp : p < 2) : k0_off3 (BitVec.ofNat 32 p) = ![p, 0, 0] := by
  rw [k0_off3, off_here p (by omega)]

theorem slot_off5 {p : ℕ} (hp : p < 2) : k0_off5 (BitVec.ofNat 32 p) = ![p, 0, 0] := slot_off hp
theorem slot_off8 {p : ℕ} (hp : p < 2) : k0_off8 (BitVec.ofNat 32 p) = ![p, 0, 0] := slot_off hp

/-- A slot lies inside the scratch. -/
theorem slot_inb {p : ℕ} (hp : p < 2) : ∀ a, ![p, 0, 0] a + S1x1024x1024.size a ≤ S2x1024x1024.size a := by
  intro a
  match a with
  | ⟨0, _⟩ => show p + 1 ≤ 2; omega
  | ⟨1, _⟩ => show 0 + 1024 ≤ 1024; omega
  | ⟨2, _⟩ => show 0 + 1024 ≤ 1024; omega

theorem slot_packed {p : ℕ} (hp : p < 2) (off : Fin 3 → ℕ) (ho : off = ![p, 0, 0]) (h) :
    (Rect.unit (s := S2x1024x1024) off S1x1024x1024.size h).PackedRows (EltTy.packing .bf16) := by
  subst ho
  exact Or.inr ⟨by decide, rfl, Or.inl ⟨⟨0, rfl⟩, ⟨512, rfl⟩⟩⟩

theorem chk1_of {p : ℕ} (hp : p < 2) (i : grid0.Coords) : k0_chk1 i (BitVec.ofNat 32 p) := by
  unfold k0_chk1
  exact ⟨fun _ => by rw [slot_off hp]; exact slot_inb hp, fun _ h => slot_packed hp _ (slot_off hp) h⟩

theorem chk2_of {p : ℕ} (hp : p < 2) (i : grid0.Coords) (v8 v11 : BitVec 32) : k0_chk2 i v8 v11 (BitVec.ofNat 32 p) := by
  unfold k0_chk2
  exact ⟨fun _ => by rw [slot_off5 hp]; exact slot_inb hp, fun _ h => slot_packed hp _ (slot_off5 hp) h⟩

theorem chk3_of {p : ℕ} (hp : p < 2) (i : grid0.Coords) (v0 : BitVec 32) : k0_chk3 i v0 (BitVec.ofNat 32 p) := by
  unfold k0_chk3
  exact fun _ => by rw [slot_off8 hp]; exact slot_inb hp

end Cert.Experts

end
-- ==== Proof.Experts.BodyRun.lean ====
module

public import proofs.«01_k».proof.Proof.Experts.Words

/-!
The run of the expert kernel's whole body at one tile: what it leaves in the two scratch buffers and
in the tile's window, from the table words, the windows' blocks and what the scratch held.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables as numbers: the slot of every tile, whether a tile's expert is new, and how many tiles are in use. -/
structure Plan where
  /-- the slot of a tile -/
  par : Fin 80 → ℕ
  /-- whether a tile's expert differs from the one before -/
  fresh : Fin 80 → Prop
  /-- the number of tiles in use -/
  used : ℕ
  par_lt : ∀ n, par n < 2
  used_le : used ≤ 80

open Classical in
/-- The first scratch after the first stage. -/
def slot1 (P : Plan) (n : Fin 80) (s0 : Vec F S2x1024x1024 .bf16) (x1 : Vec F S1x1x1024x1024 .f32) : Vec F S2x1024x1024 .bf16 :=
  if n.val = 0 then putSlot s0 (P.par 0) (k0_pay1 x1) else s0

open Classical in
/-- The first scratch after the second stage. -/
def slot2 (P : Plan) (n : Fin 80) (s0 : Vec F S2x1024x1024 .bf16) (x2 : Vec F S1x1x1024x1024 .f32) : Vec F S2x1024x1024 .bf16 :=
  if n.val + 1 < P.used ∧ P.fresh (next n.val) then putSlot s0 (P.par (next n.val)) (k0_pay2 x2) else s0

open Classical in
/-- The second scratch after the third stage. -/
def down3 (P : Plan) (n : Fin 80) (s1 : Vec F S512x1024 .bf16) (x3 : Vec F S1x1x512x1024 .f32) : Vec F S512x1024 .bf16 :=
  if n.val < P.used ∧ P.fresh n then k0_pay3 x3 else s1

open Classical in
/-- The tile's window after the body. -/
def tile5 (P : Plan) (n : Fin 80) (x0 : Vec F S4096x128 .f32) (s0 : Vec F S2x1024x1024 .bf16) (s1 : Vec F S512x1024 .bf16) : Vec F S4096x128 .f32 :=
  if n.val < P.used then spread (prodTile x0 (VecWindow.window s0 ![P.par n, 0, 0] S1x1024x1024.size (slot_inb (P.par_lt n))) s1)
  else k0_pay9 (F := F)

section

variable (c : Dev nD)

/-- The load of one table word goes on with the word. -/
theorem load_word (K : sProp 𝕄) (M : Memref sig .tc .smem S80 .i32) (hM : M.IsWhole) (f : TbBuf (F := F) c M) (off : Fin 1 → ℕ) (inb) (n : Fin 80) (hn : off 0 = n.val)
    (k : Elt F .i32 → Prog (TpuEff nD τ sig (Elt F) Λ₀ .tc) PUnit) :
    iprop(tbPt c M f ∗ (tbPt c M f -∗ runs c (k (word c M f n)) K))
    ⊢ runs c (do let v ← smemLoad M (Rect.unit (s := S80) off S1.size inb) numel1_S1 rfl; k v) K := by
  unfold runs
  iintro ⟨HT, Hk⟩
  sl_exec
  rw [show load_word.sl.r c M f off inb = word c M f n from word_at c M f off inb n hn _]
  iapply Hk
  iexact HT

/-- The load of the only word of the last table goes on with the word. -/
theorem load_word1 (K : sProp 𝕄) (M : Memref sig .tc .smem S1 .i32) (hM : M.IsWhole) (f : TbBuf (F := F) c M) (inb)
    (k : Elt F .i32 → Prog (TpuEff nD τ sig (Elt F) Λ₀ .tc) PUnit) :
    iprop(tbPt c M f ∗ (tbPt c M f -∗ runs c (k (word1 c M f)) K))
    ⊢ runs c (do let v ← smemLoad M (Rect.unit (s := S1) ![0] S1.size inb) numel1_S1 rfl; k v) K := by
  unfold runs
  iintro ⟨HT, Hk⟩
  sl_exec
  rw [show load_word1.sl.r c M f inb = word1 c M f from word1_at c M f inb _]
  iapply Hk
  iexact HT

variable (P : Plan) (n : Fin 80) (i : grid0.Coords) (hi : (i 0).val = n.val)
  (arg5 : Memref sig .tc .vmem S4096x128 .f32) (harg5 : arg5.IsWhole)
  (arg6 : Memref sig .tc .vmem S1x1x1024x1024 .f32) (harg6 : arg6.IsWhole)
  (arg7 : Memref sig .tc .vmem S1x1x1024x1024 .f32) (harg7 : arg7.IsWhole)
  (arg8 : Memref sig .tc .vmem S1x1x512x1024 .f32) (harg8 : arg8.IsWhole)
  (arg9 : Memref sig .tc .vmem S4096x128 .f32) (harg9 : arg9.IsWhole)
  (arg10 : Memref sig .tc .vmem S2x1024x1024 .bf16) (harg10 : arg10.IsWhole)
  (arg11 : Memref sig .tc .vmem S512x1024 .bf16) (harg11 : arg11.IsWhole)
  (k : Prog (TpuEff nD τ sig (Elt F) Λ₀ .tc) PUnit)
  (xt1 : TbBuf (F := F) c tbM1) (xt2 : TbBuf (F := F) c tbM2) (xt3 : TbBuf (F := F) c tbM3)
  (hfresh : ∀ n, word c tbM1 xt1 n = 1#32 ↔ P.fresh n) (hpar : ∀ n, word c tbM2 xt2 n = BitVec.ofNat 32 (P.par n))
  (hused : word1 c tbM3 xt3 = BitVec.ofNat 32 P.used)

include hi harg6 hpar in
/-- The first stage. -/
theorem stage1_run (K : sProp 𝕄) (x1 : Vec F S1x1x1024x1024 .f32) (s0 : Vec F S2x1024x1024 .bf16) :
    iprop(owns (c : Thread nD τ) arg6 fullShare x1 ∗ owns (c : Thread nD τ) arg10 fullShare s0 ∗ tbPt c tbM2 xt2
      ∗ (iprop(owns (c : Thread nD τ) arg6 fullShare x1 ∗ owns (c : Thread nD τ) arg10 fullShare (slot1 P n s0 x1) ∗ tbPt c tbM2 xt2)
          -∗ runs c k K))
    ⊢ runs c (stage1 i arg6 arg10 harg10 k) K := by
  unfold slot1
  by_cases h : n.val = 0
  · rw [if_pos h]
    exact stage1_taken c i arg6 harg6 arg10 harg10 k K ((cond1_iff i).mpr (hi.trans h)) x1 s0 xt2 (P.par 0)
      (by rw [hpar]; exact slot_off (P.par_lt 0)) (by rw [hpar]; exact chk1_of (P.par_lt 0) i)
  · rw [if_neg h, show stage1 i arg6 arg10 harg10 k = k from dif_neg (fun e => h (hi.symm.trans ((cond1_iff i).mp e)))]
    iintro ⟨H0, H1, H2, Hk⟩
    iapply Hk
    isplitl [H0]; · iexact H0
    isplitl [H1]; · iexact H1
    iexact H2

include hi harg7 hpar in
/-- The second stage, at the words it reads. -/
theorem stage2_run (K : sProp 𝕄) (v8 v11 : Elt F .i32) (h8 : v8 = BitVec.ofNat 32 P.used) (h11 : v11 = 1#32 ↔ P.fresh (next n.val))
    (x2 : Vec F S1x1x1024x1024 .f32) (s0 : Vec F S2x1024x1024 .bf16) :
    iprop(owns (c : Thread nD τ) arg7 fullShare x2 ∗ owns (c : Thread nD τ) arg10 fullShare s0 ∗ tbPt c tbM2 xt2
      ∗ (iprop(owns (c : Thread nD τ) arg7 fullShare x2 ∗ owns (c : Thread nD τ) arg10 fullShare (slot2 P n s0 x2) ∗ tbPt c tbM2 xt2)
          -∗ runs c k K))
    ⊢ runs c (stage2 i arg7 arg10 harg10 v8 v11 k) K := by
  subst h8
  have hc := (cond2_iff i P.used_le v11).trans (and_congr (by rw [hi]) h11)
  unfold slot2
  by_cases h : n.val + 1 < P.used ∧ P.fresh (next n.val)
  · rw [if_pos h]
    exact stage2_taken c i arg7 harg7 arg10 harg10 k K _ v11 (hc.mpr h) x2 s0 xt2 (next n.val) (by rw [off4_eq, hi]) (P.par (next n.val))
      (by rw [hpar]; exact slot_off5 (P.par_lt _)) (by rw [hpar]; exact chk2_of (P.par_lt _) i _ _)
  · rw [if_neg h, show stage2 i arg7 arg10 harg10 (BitVec.ofNat 32 P.used) v11 k = k from dif_neg (fun e => h (hc.mp e))]
    iintro ⟨H0, H1, H2, Hk⟩
    iapply Hk
    isplitl [H0]; · iexact H0
    isplitl [H1]; · iexact H1
    iexact H2

include harg8 harg11 in
/-- The third stage, at the bit it reads. -/
theorem stage3_run (K : sProp 𝕄) (v21 : BitVec 1) (hc : v21 = 1#1 ↔ n.val < P.used ∧ P.fresh n)
    (x3 : Vec F S1x1x512x1024 .f32) (s1 : Vec F S512x1024 .bf16) :
    iprop(owns (c : Thread nD τ) arg8 fullShare x3 ∗ owns (c : Thread nD τ) arg11 fullShare s1
      ∗ (iprop(owns (c : Thread nD τ) arg8 fullShare x3 ∗ owns (c : Thread nD τ) arg11 fullShare (down3 P n s1 x3)) -∗ runs c k K))
    ⊢ runs c (stage3 arg8 arg11 harg11 v21 k) K := by
  unfold down3
  by_cases h : n.val < P.used ∧ P.fresh n
  · rw [if_pos h]
    exact stage3_taken c arg8 harg8 arg11 harg11 k K v21 (hc.mpr h) x3 s1
  · rw [if_neg h, show stage3 arg8 arg11 harg11 v21 k = k from if_neg (fun e => h (hc.mp e))]
    iintro ⟨H0, H1, Hk⟩
    iapply Hk
    isplitl [H0]; · iexact H0
    iexact H1

include hi harg5 harg9 harg10 harg11 hpar in
/-- The last two stages: the tile's window. -/
theorem stage45_run (K : sProp 𝕄) (v0 : Elt F .i32) (h0 : v0 = BitVec.ofNat 32 P.used)
    (x0 : Vec F S4096x128 .f32) (s0 : Vec F S2x1024x1024 .bf16) (s1 : Vec F S512x1024 .bf16) (x : Vec F S4096x128 .f32) :
    iprop(owns (c : Thread nD τ) arg5 fullShare x0 ∗ owns (c : Thread nD τ) arg9 fullShare x ∗ owns (c : Thread nD τ) arg10 fullShare s0
      ∗ owns (c : Thread nD τ) arg11 fullShare s1 ∗ tbPt c tbM2 xt2
      ∗ (iprop(owns (c : Thread nD τ) arg5 fullShare x0 ∗ owns (c : Thread nD τ) arg9 fullShare (tile5 P n x0 s0 s1)
          ∗ owns (c : Thread nD τ) arg10 fullShare s0 ∗ owns (c : Thread nD τ) arg11 fullShare s1 ∗ tbPt c tbM2 xt2)
          -∗ runs c k K))
    ⊢ runs c (stage4 i arg5 harg5 arg6 harg6 arg7 harg7 arg8 harg8 arg9 harg9 arg10 harg10 arg11 harg11 v0 (stage5 i arg9 v0 k)) K := by
  subst h0
  have h4 := (cond4_iff i P.used_le).trans (by rw [hi])
  have h5 := (cond5_iff i P.used_le).trans (not_congr (by rw [hi]))
  unfold tile5
  by_cases h : n.val < P.used
  · rw [if_pos h, show stage5 i arg9 (BitVec.ofNat 32 P.used) k = k from dif_neg (fun e => h5.mp e h)]
    exact stage4_taken c i arg5 harg5 arg6 harg6 arg7 harg7 arg8 harg8 arg9 harg9 arg10 harg10 arg11 harg11 k K _ (h4.mpr h) x0 s0 s1 x xt2 n
      (by rw [off7_eq, hi]) (P.par n) (by rw [hpar]; exact slot_off8 (P.par_lt _)) (slot_inb (P.par_lt n)) (by rw [hpar]; exact chk3_of (P.par_lt _) i _)
  · rw [if_neg h, show stage4 i arg5 harg5 arg6 harg6 arg7 harg7 arg8 harg8 arg9 harg9 arg10 harg10 arg11 harg11 (BitVec.ofNat 32 P.used)
      (stage5 i arg9 (BitVec.ofNat 32 P.used) k) = stage5 i arg9 (BitVec.ofNat 32 P.used) k from dif_neg (fun e => h (h4.mp e))]
    iintro ⟨H0, H1, H2, H3, H4, Hk⟩
    iapply (stage5_taken c i arg9 harg9 k K _ (h5.mpr h) x)
    isplitl [H1]; · iexact H1
    iintro H1
    iapply Hk
    isplitl [H0]; · iexact H0
    isplitl [H1]; · iexact H1
    isplitl [H2]; · iexact H2
    isplitl [H3]; · iexact H3
    iexact H4

include hi hfresh hpar hused in
/-- The whole body at one tile. -/
theorem staged_run (K : sProp 𝕄) (x0 : Vec F S4096x128 .f32) (x1 x2 : Vec F S1x1x1024x1024 .f32) (x3 : Vec F S1x1x512x1024 .f32) (x : Vec F S4096x128 .f32)
    (s0 : Vec F S2x1024x1024 .bf16) (s1 : Vec F S512x1024 .bf16) :
    iprop(owns (c : Thread nD τ) arg5 fullShare x0 ∗ owns (c : Thread nD τ) arg6 fullShare x1 ∗ owns (c : Thread nD τ) arg7 fullShare x2
      ∗ owns (c : Thread nD τ) arg8 fullShare x3 ∗ owns (c : Thread nD τ) arg9 fullShare x
      ∗ owns (c : Thread nD τ) arg10 fullShare s0 ∗ owns (c : Thread nD τ) arg11 fullShare s1
      ∗ tbPt c tbM1 xt1 ∗ tbPt c tbM2 xt2 ∗ tbPt c tbM3 xt3
      ∗ (iprop(owns (c : Thread nD τ) arg5 fullShare x0 ∗ owns (c : Thread nD τ) arg6 fullShare x1 ∗ owns (c : Thread nD τ) arg7 fullShare x2
          ∗ owns (c : Thread nD τ) arg8 fullShare x3
          ∗ owns (c : Thread nD τ) arg9 fullShare (tile5 P n x0 (slot2 P n (slot1 P n s0 x1) x2) (down3 P n s1 x3))
          ∗ owns (c : Thread nD τ) arg10 fullShare (slot2 P n (slot1 P n s0 x1) x2) ∗ owns (c : Thread nD τ) arg11 fullShare (down3 P n s1 x3)
          ∗ tbPt c tbM1 xt1 ∗ tbPt c tbM2 xt2 ∗ tbPt c tbM3 xt3)
          -∗ K))
    ⊢ runs c (staged i arg5 harg5 arg6 harg6 arg7 harg7 arg8 harg8 arg9 harg9 arg10 harg10 arg11 harg11) K := by
  unfold staged
  iintro ⟨H0, H1, H2, H3, H4, H5, H6, HA, HB, HC, Hk⟩
  iapply (load_word1 c K tbM3 (Memref.isWhole_whole _) xt3 inb_S1_S1_0)
  isplitl [HC]; · iexact HC
  iintro HC
  iapply (stage1_run c P n i hi arg6 harg6 arg10 harg10 _ xt2 hpar K x1 s0)
  isplitl [H1]; · iexact H1
  isplitl [H5]; · iexact H5
  isplitl [HB]; · iexact HB
  iintro ⟨H1, H5, HB⟩
  iapply (load_word1 c K tbM3 (Memref.isWhole_whole _) xt3 inb_S1_S1_0)
  isplitl [HC]; · iexact HC
  iintro HC
  iapply (load_word c K tbM1 (Memref.isWhole_whole _) xt1 (k0_off1 i) (k0_off1_inb i) (next n.val) (by rw [off1_eq, hi]))
  isplitl [HA]; · iexact HA
  iintro HA
  iapply (stage2_run c P n i hi arg7 harg7 arg10 harg10 _ xt2 hpar K _ _ hused (hfresh _) x2 (slot1 P n s0 x1))
  isplitl [H2]; · iexact H2
  isplitl [H5]; · iexact H5
  isplitl [HB]; · iexact HB
  iintro ⟨H2, H5, HB⟩
  iapply (load_word c K tbM1 (Memref.isWhole_whole _) xt1 (k0_off6 i) (k0_off6_inb i) n (by rw [off6_eq, hi]))
  isplitl [HA]; · iexact HA
  iintro HA
  iapply (stage3_run c P n arg8 harg8 arg11 harg11 _ K _
    (by rw [hused]; exact (cond3_iff i P.used_le _).trans (and_congr (by rw [hi]) (hfresh n))) x3 s1)
  isplitl [H3]; · iexact H3
  isplitl [H6]; · iexact H6
  iintro ⟨H3, H6⟩
  iapply (stage45_run c P n i hi arg5 harg5 arg6 harg6 arg7 harg7 arg8 harg8 arg9 harg9 arg10 harg10 arg11 harg11 _ xt2 hpar K _ hused x0 _ _ x)
  isplitl [H0]; · iexact H0
  isplitl [H4]; · iexact H4
  isplitl [H5]; · iexact H5
  isplitl [H6]; · iexact H6
  isplitl [HB]; · iexact HB
  iintro ⟨H0, H4, H5, H6, HB⟩
  unfold runs
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  iexact HC

end

end Cert.Experts

end
-- ==== Proof.Experts.Tables.lean ====
module

public import proofs.«01_k».proof.Proof.Experts.BodyRun
public import Idealize.ShloMosaic.Lib.StableHlo.RunRead
public import Idealize.ShloMosaic.Lib.StableHlo.ReadAt
public import Idealize.ShloMosaic.Lib.Routing.Ops
public import Idealize.ShloMosaic.Lib.Routing.Words

/-!
The tables the expert kernel's host code prepares: which tiles bring a new expert, and the slot of each tile.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The four stretches of host operations before the region. -/
abbrev hostOpss : List (List (HloOp τ sig (Elt F))) := [hostOps0, hostOps0_1, hostOps0_2, hostOps0_3]

/-- Core `c`'s buffers when the region is entered. -/
abbrev V (c : Dev nD) (b : Ref sig .tc) : Buf (Elt F) ((c : Thread nD τ).loc b) :=
  StableHlo.after (hostOpss (F := F)).flatten (fun b => m (c, b)) b

/-- No host operation takes a fresh buffer. -/
theorem hostOpss_fresh : (hostOpss (F := F)).Forall fun ops => ops.Forall fun op => op.fresh = ∅ := by
  simp only [List.Forall]; repeat' constructor

/-- Every host operation touches buffers of the core only. -/
theorem hostOpss_sub : (hostOpss (F := F)).Forall fun ops => ops.Forall fun op => op.bufs ⊆ StableHlo.tcRefs τ sig :=
  ⟨hostOps0_sub, hostOps0_1_sub, hostOps0_2_sub, hostOps0_3_sub⟩

/-- The host operations write no argument. -/
theorem V_main_arg0 (c : Dev nD) : V m c main_arg0 = m ((c : Thread nD τ).loc main_arg0) := by
  unfold V hostOpss hostOps0 hostOps0_1 hostOps0_2 hostOps0_3; after_reads_simp; try rfl
theorem V_main_arg1 (c : Dev nD) : V m c main_arg1 = m ((c : Thread nD τ).loc main_arg1) := by
  unfold V hostOpss hostOps0 hostOps0_1 hostOps0_2 hostOps0_3; after_reads_simp; try rfl
theorem V_main_arg2 (c : Dev nD) : V m c main_arg2 = m ((c : Thread nD τ).loc main_arg2) := by
  unfold V hostOpss hostOps0 hostOps0_1 hostOps0_2 hostOps0_3; after_reads_simp; try rfl
theorem V_main_arg3 (c : Dev nD) : V m c main_arg3 = m ((c : Thread nD τ).loc main_arg3) := by
  unfold V hostOpss hostOps0 hostOps0_1 hostOps0_2 hostOps0_3; after_reads_simp; try rfl
theorem V_main_arg4 (c : Dev nD) : V m c main_arg4 = m ((c : Thread nD τ).loc main_arg4) := by
  unfold V hostOpss hostOps0 hostOps0_1 hostOps0_2 hostOps0_3; after_reads_simp; try rfl

/-- The table of new experts, as the host code writes it. -/
def freshTable (te : IVec S80 32) : IVec S80 32 :=
  concatenate S80 0 [⟨S1, broadcastInDim S1 ![] bcast_S_S1 (constantI S_ 32 1#32)⟩,
    ⟨S79, extui 32 (cmpi .ne (extractStridedSlice S79 ![1] te slices_S80_S79_1) (extractStridedSlice S79 ![0] te slices_S80_S79_0)) natLt_1_32⟩] concatenates_S1_S79_S80_d0

/-- The table of slots, as the host code writes it from the table of new experts. -/
def slotTable (fr : IVec S80 32) : IVec S80 32 :=
  Routing.pyRem bcast_S_S80 (subi (Host.reduceWindow IntOp.addi ![80] ![1] ![79] ![0] fr (broadcastInDim S_ ![] bcast_S_S_ (constantI S_ 32 0#32)) reduceWindows_S80_S80_w80s1p79_0 h_S_)
    (broadcastInDim S80 ![] bcast_S_S80 (constantI S_ 32 1#32))) (constantI S_ 32 2#32)

/-- The region finds the table of new experts computed from the experts' table. -/
theorem V_main_v5 (c : Dev nD) : V m c main_v5 = freshTable (m ((c : Thread nD τ).loc main_arg0)) := by
  unfold V hostOpss hostOps0 hostOps0_1 hostOps0_2 hostOps0_3
  simp only [List.flatten_cons, List.flatten_nil, List.append_nil, List.cons_append, List.nil_append]
  after_reads_simp
  rfl

/-- The region finds the table of slots computed from the table of new experts. -/
theorem V_main_v9 (c : Dev nD) : V m c main_v9 = slotTable (freshTable (m ((c : Thread nD τ).loc main_arg0))) := by
  unfold V hostOpss hostOps0 hostOps0_1 hostOps0_2 hostOps0_3
  simp only [List.flatten_cons, List.flatten_nil, List.append_nil, List.cons_append, List.nil_append]
  after_reads_simp
  simp -implicitDefEqProofs only [StableHlo.TRef.toBuf, StableHlo.TRef.ofBuf, cast_cast, cast_eq]
  unfold slotTable freshTable Routing.pyRem Routing.divGuard
  rfl

open Classical in
/-- One where a tile's expert is new (the first tile, or another expert than the tile before), else zero. -/
def freshAt (te : IVec S80 32) (k : ℕ) : ℕ :=
  if h : k < 80 then (if k = 0 then 1 else if te (ix1 ⟨k, h⟩) ≠ te (ix1 ⟨k - 1, by omega⟩) then 1 else 0) else 0

/-- How many new experts there are up to a tile. -/
def freshSum (te : IVec S80 32) (k : ℕ) : ℕ := ((List.range (k + 1)).map (freshAt te)).sum

/-- The slot of a tile: the new experts so far, less one, modulo two. -/
def slotAt (te : IVec S80 32) (k : ℕ) : ℕ := (freshSum te k - 1) % 2

theorem freshAt_zero (te : IVec S80 32) : freshAt te 0 = 1 := by simp [freshAt]

theorem freshAt_le (te : IVec S80 32) (k : ℕ) : freshAt te k ≤ 1 := by
  unfold freshAt; split_ifs <;> simp

theorem freshSum_succ (te : IVec S80 32) (k : ℕ) : freshSum te (k + 1) = freshSum te k + freshAt te (k + 1) := by
  unfold freshSum; rw [List.range_succ (n := k + 1), List.map_append, List.sum_append]; simp

theorem freshSum_bounds (te : IVec S80 32) (k : ℕ) : 1 ≤ freshSum te k ∧ freshSum te k ≤ k + 1 := by
  induction k with
  | zero => simp [freshSum, freshAt_zero]
  | succ k ih => rw [freshSum_succ]; have := freshAt_le te (k + 1); omega

theorem slotAt_lt (te : IVec S80 32) (k : ℕ) : slotAt te k < 2 := Nat.mod_lt _ (by decide)

/-- A new expert takes the other slot. -/
theorem slotAt_fresh (te : IVec S80 32) (k : ℕ) (h : freshAt te (k + 1) = 1) : slotAt te (k + 1) ≠ slotAt te k := by
  have := freshSum_bounds te k
  unfold slotAt; rw [freshSum_succ, h]; omega

/-- The same expert keeps its slot. -/
theorem slotAt_same (te : IVec S80 32) (k : ℕ) (h : freshAt te (k + 1) ≠ 1) : slotAt te (k + 1) = slotAt te k := by
  have := freshAt_le te (k + 1)
  unfold slotAt; rw [freshSum_succ, show freshAt te (k + 1) = 0 by omega]; rfl

/-- A tile whose expert is not new has the expert of the tile before. -/
theorem expert_same (te : IVec S80 32) (n : Fin 80) (hn : n.val ≠ 0) (h : freshAt te n.val ≠ 1) :
    te (ix1 n) = te (ix1 ⟨n.val - 1, by omega⟩) := by
  by_contra hne
  exact h (by unfold freshAt; rw [dif_pos n.isLt, if_neg hn, if_pos hne])

/-- The table of new experts, at a tile. -/
theorem freshTable_at (te : IVec S80 32) (n : Fin 80) : freshTable te (ix1 n) = BitVec.ofNat 32 (freshAt te n.val) := by
  pointwise [freshTable]
  unfold freshAt
  rw [dif_pos n.isLt]
  by_cases hn : n.val = 0
  · rw [dif_pos (by omega), if_pos hn]
  · rw [dif_neg (by omega), if_neg hn]
    have e : (⟨1 + (n.val - 1), by omega⟩ : Fin 80) = n := Fin.ext (by dsimp only; omega)
    rw [e]
    unfold IntOp.cmpi
    by_cases h : te (ix1 n) = te (ix1 ⟨n.val - 1, by omega⟩)
    · rw [if_neg (not_not.mpr h), h]; simp
    · rw [if_pos h, show (te (ix1 n) != te (ix1 ⟨n.val - 1, by omega⟩)) = true from bne_iff_ne.mpr h]; rfl

/-- The table of slots, at a tile. -/
theorem slotTable_at (te : IVec S80 32) (n : Fin 80) : slotTable (freshTable te) (ix1 n) = BitVec.ofNat 32 (slotAt te n.val) := by
  have hb := freshSum_bounds te n.val
  have hn := n.isLt
  unfold slotTable slotAt
  refine Routing.pyRem_ap _ _ _ _ ?_ rfl (by omega) (by decide) (by decide)
  have e := Routing.cumsum1 (N := 80) (Nm1 := 79) rfl (freshTable te) (freshAt te) (fun i => freshTable_at te i)
    (broadcastInDim S_ ![] bcast_S_S_ (constantI S_ 32 0#32)) rfl reduceWindows_S80_S80_w80s1p79_0 h_S_ n
  rw [Routing.subi_ap]
  refine (congrArg₂ (· - ·) e rfl).trans ?_
  show BitVec.ofNat 32 (freshSum te n.val) - 1#32 = _
  apply BitVec.eq_of_toNat_eq
  simp only [BitVec.toNat_sub, BitVec.toNat_ofNat]
  omega

/-- The plan of a table of experts and a number of tiles in use. -/
def planOf (te : IVec S80 32) (nu : ℕ) (h : nu ≤ 80) : Plan where
  par n := slotAt te n.val
  fresh n := freshAt te n.val = 1
  used := nu
  par_lt n := slotAt_lt te n.val
  used_le := h

section

variable (pf : pre0.Contents (Elt F))

/-- The experts' table and the number of tiles in use, as the region is given them. -/
abbrev teOf : IVec S80 32 := pf 0
abbrev nuOf : IVec S1 32 := pf 3

/-- A table entry read through a rectangle of one entry. -/
theorem entry_at (f : IVec S80 32) (off : Fin 1 → ℕ) (inb) (n : Fin 80) (hn : off 0 = n.val) (h : 0 < (Rect.unit (s := S80) off S1.size inb).shape.numel) :
    f ((Rect.unit (s := S80) off S1.size inb).emb (Shape.Idx.first h)) = f (ix1 n) := by
  congr 1
  funext a
  match a with
  | ⟨0, _⟩ =>
    apply Fin.ext
    show off 0 + 1 * 0 = n.val
    omega

/-- The entry of the table of one entry. -/
theorem entry1_at (f : IVec S1 32) (inb) (h : 0 < (Rect.unit (s := S1) ![0] S1.size inb).shape.numel) :
    f ((Rect.unit (s := S1) ![0] S1.size inb).emb (Shape.Idx.first h)) = f (ix1 0) := by
  congr 1
  funext a
  match a with
  | ⟨0, _⟩ => exact Fin.ext rfl

/-- Window 0's block: the tile's, or the one after the last in use. -/
theorem map0 (i : grid0.Coords) {nu : ℕ} (hnu : nu ≤ 80) (h : nuOf pf (ix1 0) = BitVec.ofNat 32 nu) :
    cc0_transform_0 inb_S1_S1_0 numel1_S1 pf i = ![min (i 0).val nu, 0] := by
  have hc := coord_lt i
  refine (congrArg (fun w : BitVec 32 => ![(Scalar.minsi (BitVec.ofNat 32 (i 0).val) w).toNat, 0])
    ((entry1_at (nuOf pf) inb_S1_S1_0 (numel1_S1.symm ▸ Nat.one_pos)).trans h) :).trans ?_
  unfold Scalar.minsi IntOp.minsi
  rw [BitVec.slt, toInt_ofNat_of_lt (by omega), toInt_ofNat_of_lt (by omega)]
  by_cases h1 : (i 0).val < nu
  · rw [if_pos (by simp; omega), toNat_ofNat_of_lt (by omega), Nat.min_eq_left h1.le]
  · rw [if_neg (by simp; omega), toNat_ofNat_of_lt (by omega), Nat.min_eq_right (by omega)]

/-- Window 1's block: the first tile's expert. -/
theorem map1 (i : grid0.Coords) : cc0_transform_1 inb_S80_S1_0 numel1_S1 pf i = ![0, (teOf pf (ix1 0)).toNat, 0, 0] :=
  congrArg (fun w : BitVec 32 => ![0, w.toNat, 0, 0]) (entry_at (teOf pf) ![0] inb_S80_S1_0 0 rfl (numel1_S1.symm ▸ Nat.one_pos))

/-- Window 2's block: the next tile's expert. -/
theorem map2 (i : grid0.Coords) : cc0_transform_2 k0_off1_inb numel1_S1 pf i = ![0, (teOf pf (ix1 (next (i 0).val))).toNat, 0, 0] :=
  congrArg (fun w : BitVec 32 => ![0, w.toNat, 0, 0]) (entry_at (teOf pf) (k0_off1 i) (k0_off1_inb i) (next (i 0).val) (off1_eq i) (numel1_S1.symm ▸ Nat.one_pos))

/-- Window 3's block: the tile's expert. -/
theorem map3 (i : grid0.Coords) : cc0_transform_3 k0_off2_inb numel1_S1 pf i = ![0, (teOf pf (ix1 ⟨(i 0).val, coord_lt i⟩)).toNat, 0, 0] :=
  congrArg (fun w : BitVec 32 => ![0, w.toNat, 0, 0]) (entry_at (teOf pf) (k0_off2 i) (k0_off2_inb i) ⟨(i 0).val, coord_lt i⟩ (off_here _ (coord_lt i)) (numel1_S1.symm ▸ Nat.one_pos))

end

end Cert.Experts

end
-- ==== Proof.Experts.Layers.lean ====
module

public import proofs.«01_k».proof.Proof.Experts.Tables

/-!
The expert kernel of a layer: the same tables, windows, body and host code for either layer, the blocks of weights taken from the
layer's half of their arrays. The two printed kernels are its instances (`SameFirst.lean`, `SameFirstIdeal.lean`, `SameSecond.lean`, `SameSecondIdeal.lean`).
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (l : Fin 2)

/-- A block of weights in the layer's half of the array. -/
abbrev atLayer (ix : Fin 4 → ℕ) : Fin 4 → ℕ := ![l.val, ix 1, ix 2, ix 3]

/-- The windows' blocks at a tile: those of the first layer's kernel, the weights' in the layer's half. -/
abbrev ixL (pf : pre0.Contents (Elt F)) : (w : Fin 5) → grid0.Coords → Fin (spec0 w).shape.rank → Nat := fun
  | 0 => cc0_transform_0 inb_S1_S1_0 numel1_S1 pf
  | 1 => fun i => atLayer l (cc0_transform_1 inb_S80_S1_0 numel1_S1 pf i)
  | 2 => fun i => atLayer l (cc0_transform_2 k0_off1_inb numel1_S1 pf i)
  | 3 => fun i => atLayer l (cc0_transform_3 k0_off2_inb numel1_S1 pf i)
  | 4 => cc0_transform_4
  | ⟨_ + 5, h⟩ => absurd h (Nat.not_lt.2 (Nat.le_add_left _ _))

/-- A window's block depends on the tile where the window says so. -/
theorem hreadsL (pf : pre0.Contents (Elt F)) : ∀ w (i i' : grid0.Coords), (∀ a, (spec0 w).reads a = true → i a = i' a) → ixL l pf w i = ixL l pf w i' := fun
  | 0 => hreads0 pf 0
  | 1 => fun i i' h => congrArg (atLayer l) (hreads0 pf 1 i i' h)
  | 2 => fun i i' h => congrArg (atLayer l) (hreads0 pf 2 i i' h)
  | 3 => fun i i' h => congrArg (atLayer l) (hreads0 pf 3 i i' h)
  | 4 => hreads0 pf 4
  | ⟨_ + 5, h⟩ => absurd h (Nat.not_lt.2 (Nat.le_add_left _ _))

/-- The blocks the tables name lie in their arrays. -/
def okL (pf : pre0.Contents (Elt F)) : Prop :=
  (∀ i : grid0.Coords, ∃ h : (∀ a, (cc0_transform_0 inb_S1_S1_0 numel1_S1 pf i a + 1) * S4096x128.size a ≤ S327680x128.size a), EltTy.bits .f32 = 32 ∨ (Rect.block (s := S327680x128) S4096x128.size (cc0_transform_0 inb_S1_S1_0 numel1_S1 pf i) h).WholeWords (EltTy.packing .f32)) ∧
  (∀ i : grid0.Coords, ∃ h : (∀ a, (atLayer l (cc0_transform_1 inb_S80_S1_0 numel1_S1 pf i) a + 1) * S1x1x1024x1024.size a ≤ S2x16x1024x1024.size a), EltTy.bits .f32 = 32 ∨ (Rect.block (s := S2x16x1024x1024) S1x1x1024x1024.size (atLayer l (cc0_transform_1 inb_S80_S1_0 numel1_S1 pf i)) h).WholeWords (EltTy.packing .f32)) ∧
  (∀ i : grid0.Coords, ∃ h : (∀ a, (atLayer l (cc0_transform_2 k0_off1_inb numel1_S1 pf i) a + 1) * S1x1x1024x1024.size a ≤ S2x16x1024x1024.size a), EltTy.bits .f32 = 32 ∨ (Rect.block (s := S2x16x1024x1024) S1x1x1024x1024.size (atLayer l (cc0_transform_2 k0_off1_inb numel1_S1 pf i)) h).WholeWords (EltTy.packing .f32)) ∧
  (∀ i : grid0.Coords, ∃ h : (∀ a, (atLayer l (cc0_transform_3 k0_off2_inb numel1_S1 pf i) a + 1) * S1x1x512x1024.size a ≤ S2x16x512x1024.size a), EltTy.bits .f32 = 32 ∨ (Rect.block (s := S2x16x512x1024) S1x1x512x1024.size (atLayer l (cc0_transform_3 k0_off2_inb numel1_S1 pf i)) h).WholeWords (EltTy.packing .f32))

instance (pf : pre0.Contents (Elt F)) : Decidable (okL l pf) := decidable_of_iff' _ (Iff.of_eq (okL.eq_1 l pf))

/-- Then every window's blocks lie in its array. -/
theorem hinbL (pf : pre0.Contents (Elt F)) (hok : okL l pf) : ∀ w (i : grid0.Coords) a, (ixL l pf w i a + 1) * (spec0 w).size a ≤ (spec0 w).shape.size a := fun
  | 0 => fun i a => (hok.1 i).elim fun h _ => h a
  | 1 => fun i a => (hok.2.1 i).elim fun h _ => h a
  | 2 => fun i a => (hok.2.2.1 i).elim fun h _ => h a
  | 3 => fun i a => (hok.2.2.2 i).elim fun h _ => h a
  | 4 => hinb0_4
  | ⟨_ + 5, h⟩ => absurd h (Nat.not_lt.2 (Nat.le_add_left _ _))

/-- Every window's entries are whole words. -/
theorem hwxL (pf : pre0.Contents (Elt F)) (hok : okL l pf) : ∀ w (i : grid0.Coords), (spec0 w).elt.bits = 32 ∨ (Rect.block (spec0 w).size (ixL l pf w i) (hinbL l pf hok w i)).WholeWords (spec0 w).elt.packing := fun
  | 0 => fun _ => Or.inl rfl
  | 1 => fun _ => Or.inl rfl
  | 2 => fun _ => Or.inl rfl
  | 3 => fun _ => Or.inl rfl
  | 4 => fun _ => Or.inl rfl
  | ⟨_ + 5, h⟩ => absurd h (Nat.not_lt.2 (Nat.le_add_left _ _))

/-- The layer's region: the pipeline over the tables, and its table of one. -/
abbrev pcfgL : Pipeline.PCfg sig Λ₀ (Elt F) :=
  Pipeline.PCfg.ofSpecs pre0 grid0 hrank0 (fun _ => grid0.bound) (fun _ _ _ => rfl)
    5 spec0 hcount0 harr0 (ixL l) (hreadsL l) (okL l) (hinbL l) (hwxL l) 0 (fun _ _ t s => (t, s)) (fun pf => idle0 pf)
abbrev pcfgsL : Fin 1 → Pipeline.PCfg sig Λ₀ (Elt F) := fun _ => pcfgL l

/-- The layer's table of procedures. -/
def defsL : Defs nD τ sig (Elt F) (Pipeline.Sig Λ₀ (Fin 1) fun p => (pcfgsL (F := F) l p).Adm) := Pipeline.defs (pcfgsL l) defs₀

/-- The layer's host code and region. -/
def mainL (c : Dev nD) : Prog (TpuEff nD τ sig (Elt F) (Pipeline.Sig Λ₀ (Fin 1) fun p => (pcfgsL (F := F) l p).Adm) .tc) PUnit :=
  Pipeline.chain [StableHlo.seq hostOps0, StableHlo.seq hostOps0_1, StableHlo.seq hostOps0_2, StableHlo.seq hostOps0_3, Prog.lift (.customCall (Pipeline.entry 0) ())]

/-- The staging cells of the layer's pipeline are distinct. -/
theorem cellOf_injL (a : (p : Fin 1) → (pcfgsL (F := F) l p).Adm) :
    Function.Injective (Pipeline.cellOf (nD := nD) (τ := τ) (Pipeline.pin (pcfgsL (F := F) l) a)) :=
  Pipeline.cellOf_injective_of_table (Pipeline.pin (pcfgsL (F := F) l) a) semTab (fun | 0 => rfl) semsDistinct semsDisjoint

/-- The layout the layer's launch needs. -/
theorem launchL : Pipeline.PLaunchFacts₀ (nD := nD) (τ := τ) (pcfgsL (F := F) l) 0 :=
  ⟨cellOf_injL l, winFacts₀0, sharedIn0, preFacts0, block_pos0, arr_whole0, stage_whole0⟩

/-- The program up to the region. -/
theorem hmain (m : (ℓ : Loc nD τ sig) → Buf (Elt F) ℓ) (𝒱₀ : Variants) :
    Pipeline.HMainP (Ix := Unit) (Name := ℕ) (U := UR sig nD τ) (Lvl := ℕ) (pcfgsL l) 0 defs₀ 𝒱₀ m (mainL (F := F) l) (V m) :=
  Pipeline.hmainP_prefixes (pcfgsL l) 0 defs₀ 𝒱₀ m (mainL l) hostOpss hostOpss_sub hostOpss_fresh fun _ => rfl

variable (pf : pre0.Contents (Elt F))

/-- The weights' blocks: the first tile's expert, the next tile's and the tile's own, in the layer's half. -/
theorem layer1 (i : grid0.Coords) : atLayer l (cc0_transform_1 inb_S80_S1_0 numel1_S1 pf i) = ![l.val, (teOf pf (ix1 0)).toNat, 0, 0] :=
  congrArg (atLayer l) (map1 pf i)
theorem layer2 (i : grid0.Coords) : atLayer l (cc0_transform_2 k0_off1_inb numel1_S1 pf i) = ![l.val, (teOf pf (ix1 (next (i 0).val))).toNat, 0, 0] :=
  congrArg (atLayer l) (map2 pf i)
theorem layer3 (i : grid0.Coords) : atLayer l (cc0_transform_3 k0_off2_inb numel1_S1 pf i) = ![l.val, (teOf pf (ix1 ⟨(i 0).val, coord_lt i⟩)).toNat, 0, 0] :=
  congrArg (atLayer l) (map3 pf i)

/-- A block of one expert's weights lies in the array. -/
theorem weight_inb (e a b : ℕ) (he : e < 16) (n : Fin 4) : (![l.val, e, 0, 0] n + 1) * (![1, 1, a, b] n) ≤ (![2, 16, a, b] : Fin 4 → ℕ) n := by
  have hl := l.isLt
  match n with
  | ⟨0, _⟩ => show (l.val + 1) * 1 ≤ 2; omega
  | ⟨1, _⟩ => show (e + 1) * 1 ≤ 16; omega
  | ⟨2, _⟩ => show (0 + 1) * a ≤ a; omega
  | ⟨3, _⟩ => show (0 + 1) * b ≤ b; omega

/-- The blocks lie in their arrays, where every expert is one of the sixteen and at most the eighty tiles are in use. -/
theorem ok_of (hte : ∀ n, (teOf pf (ix1 n)).toNat < 16) {nu : ℕ} (hnu : nu ≤ 80) (h : nuOf pf (ix1 0) = BitVec.ofNat 32 nu) : okL l pf := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · have hc := coord_lt i
    rw [map0 pf i hnu h]
    match a with
    | ⟨0, _⟩ => show (min (i 0).val nu + 1) * 4096 ≤ 327680; omega
    | ⟨1, _⟩ => show (0 + 1) * 128 ≤ 128; omega
  · rw [layer1 l pf i]; exact weight_inb l _ 1024 1024 (hte _) a
  · rw [layer2 l pf i]; exact weight_inb l _ 1024 1024 (hte _) a
  · rw [layer3 l pf i]; exact weight_inb l _ 512 1024 (hte _) a

end Cert.Experts

end
-- ==== Proof.Experts.SameFirst.lean ====
module

public import proofs.«01_k».proof.Proof.Gen.Kernel2.Launch
public import proofs.«01_k».proof.Proof.Experts.Layers

/-! The kernel printed of the first layer on the hardware's numbers is the layer's kernel of `Layers.lean`. -/

@[expose] public section

noncomputable section

namespace Cert.Experts.First

open Idealize.ShloMosaic Idealize.ShloMosaic.TcCoe Idealize.SL.Sem

variable {F : FTy → Type} [FloatOps F]

set_option maxHeartbeats 1000000 in
/-- The bodies are one text. -/
theorem body_same (i) : ∀ a1 h1 a2 h2 a3 h3 a4 h4 a5 h5 a6 h6 a7 h7 a8 h8 a9 h9 a10 h10 a11 h11,
    Cert.Kernel2.cc0_moe_experts (F := F) i a1 h1 a2 h2 a3 h3 a4 h4 a5 h5 a6 h6 a7 h7 a8 h8 a9 h9 a10 h10 a11 h11
      = Cert.Kernel2Ideal.cc0_moe_experts (F := F) i a1 h1 a2 h2 a3 h3 a4 h4 a5 h5 a6 h6 a7 h7 a8 h8 a9 h9 a10 h10 a11 h11 := by
  intros
  unfold Cert.Kernel2.cc0_moe_experts Cert.Kernel2Ideal.cc0_moe_experts
  rfl

set_option maxHeartbeats 1000000 in
/-- So are the tables of bodies, -/
theorem bodies_same : Cert.Kernel2.defs₀ (F := F) = Cert.Kernel2Ideal.defs₀ (F := F) := by
  unfold Cert.Kernel2.defs₀ Cert.Kernel2Ideal.defs₀
  refine congrArg Defs.onTc (funext fun k => ?_)
  match k with
  | ⟨0, _⟩ => exact funext fun ⟨t, s⟩ => body_same _ _ _ _ _ _ _ _ _ _ _ _ _ _ _ _ _ _ _ _ _ _ _

set_option maxHeartbeats 1000000 in
/-- the tables of procedures, -/
theorem defs_same : Cert.Kernel2.defs (F := F) = defsL (F := F) 0 := by
  unfold Cert.Kernel2.defs defsL
  exact congrArg (Pipeline.defs (pcfgsL (F := F) 0)) bodies_same

set_option maxHeartbeats 1000000 in
/-- and the host codes. -/
theorem main_same (c) : Cert.Kernel2.main (F := F) c = mainL (F := F) 0 c :=
  (Cert.Kernel2.Gen.main_chain c).trans (by unfold mainL; rfl)

/-- So they run alike. -/
theorem run_same : θ_run (Cert.Kernel2.defs (F := F)) (onTc (τ := Cert.Kernel2.τ) (Cert.Kernel2.main (F := F)))
    = θ_run (defsL (F := F) 0) (onTc (τ := Cert.Kernel2Ideal.τ) (mainL (F := F) 0)) :=
  congrArg₂ (fun d p => θ_run d (onTc p)) defs_same (funext main_same)

end Cert.Experts.First

end
-- ==== Proof.Experts.SameFirstIdeal.lean ====
module

public import proofs.«01_k».proof.Proof.Experts.Layers

/-! The kernel printed of the first layer on extended reals is the layer's kernel of `Layers.lean`. -/

@[expose] public section

noncomputable section

namespace Cert.Experts.FirstIdeal

open Cert.Kernel2Ideal (nD τ sig)
open Idealize.ShloMosaic Idealize.ShloMosaic.TcCoe Idealize.SL.Sem

variable {F : FTy → Type} [FloatOps F]

set_option maxHeartbeats 1000000 in
/-- The first layer's table of procedures is the one printed, -/
theorem defs_same : Cert.Kernel2Ideal.defs (F := F) = defsL (F := F) 0 := by
  unfold Cert.Kernel2Ideal.defs defsL
  rfl

set_option maxHeartbeats 1000000 in
/-- and so is its host code. -/
theorem main_same (c) : Cert.Kernel2Ideal.main (F := F) c = mainL (F := F) 0 c :=
  Cert.Kernel2Ideal.Gen.main_chain c

/-- So they run alike. -/
theorem run_same : θ_run (Cert.Kernel2Ideal.defs (F := F)) (onTc (τ := Cert.Kernel2Ideal.τ) (Cert.Kernel2Ideal.main (F := F)))
    = θ_run (defsL (F := F) 0) (onTc (τ := Cert.Kernel2Ideal.τ) (mainL (F := F) 0)) :=
  congrArg₂ (fun d p => θ_run d (onTc p)) defs_same (funext main_same)

end Cert.Experts.FirstIdeal

end
-- ==== Proof.Experts.SameSecondIdeal.lean ====
module

public import proofs.«01_k».proof.Proof.Gen.Kernel3Ideal.Launch
public import proofs.«01_k».proof.Proof.Experts.Layers

/-! The kernel printed of the second layer on extended reals is the layer's kernel of `Layers.lean`. -/

@[expose] public section

noncomputable section

namespace Cert.Experts.SecondIdeal

open Idealize.ShloMosaic Idealize.ShloMosaic.TcCoe Idealize.SL.Sem

variable {F : FTy → Type} [FloatOps F]

set_option maxHeartbeats 1000000 in
/-- The bodies are one text. -/
theorem body_same (i) : ∀ a1 h1 a2 h2 a3 h3 a4 h4 a5 h5 a6 h6 a7 h7 a8 h8 a9 h9 a10 h10 a11 h11,
    Cert.Kernel3Ideal.cc0_moe_experts (F := F) i a1 h1 a2 h2 a3 h3 a4 h4 a5 h5 a6 h6 a7 h7 a8 h8 a9 h9 a10 h10 a11 h11
      = Cert.Kernel2Ideal.cc0_moe_experts (F := F) i a1 h1 a2 h2 a3 h3 a4 h4 a5 h5 a6 h6 a7 h7 a8 h8 a9 h9 a10 h10 a11 h11 := by
  intros
  unfold Cert.Kernel3Ideal.cc0_moe_experts Cert.Kernel2Ideal.cc0_moe_experts
  rfl

set_option maxHeartbeats 1000000 in
/-- So are the tables of bodies, -/
theorem bodies_same : Cert.Kernel3Ideal.defs₀ (F := F) = Cert.Kernel2Ideal.defs₀ (F := F) := by
  unfold Cert.Kernel3Ideal.defs₀ Cert.Kernel2Ideal.defs₀
  refine congrArg Defs.onTc (funext fun k => ?_)
  match k with
  | ⟨0, _⟩ => exact funext fun ⟨t, s⟩ => body_same _ _ _ _ _ _ _ _ _ _ _ _ _ _ _ _ _ _ _ _ _ _ _

set_option maxHeartbeats 1000000 in
/-- the tables of procedures, -/
theorem defs_same : Cert.Kernel3Ideal.defs (F := F) = defsL (F := F) 1 := by
  unfold Cert.Kernel3Ideal.defs defsL
  exact congrArg (Pipeline.defs (pcfgsL (F := F) 1)) bodies_same

set_option maxHeartbeats 1000000 in
/-- and the host codes. -/
theorem main_same (c) : Cert.Kernel3Ideal.main (F := F) c = mainL (F := F) 1 c :=
  (Cert.Kernel3Ideal.Gen.main_chain c).trans (by unfold mainL; rfl)

/-- So they run alike. -/
theorem run_same : θ_run (Cert.Kernel3Ideal.defs (F := F)) (onTc (τ := Cert.Kernel3Ideal.τ) (Cert.Kernel3Ideal.main (F := F)))
    = θ_run (defsL (F := F) 1) (onTc (τ := Cert.Kernel2Ideal.τ) (mainL (F := F) 1)) :=
  congrArg₂ (fun d p => θ_run d (onTc p)) defs_same (funext main_same)

end Cert.Experts.SecondIdeal

end
-- ==== Proof.Experts.Data.lean ====
module

public import proofs.«01_k».proof.Proof.Experts.Layers
public import Idealize.ShloMosaic.Lib.Pipeline.FrameBody

/-!
The tables and blocks the expert kernel's region finds, for a launch whose experts are among the sixteen and
whose number of used tiles is at most eighty.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tables' contents when the region is entered. -/
def tbl : pre0.Contents (Elt F) := fun j => V m (0 : Dev nD) (pre0.ref j)

/-- They are what every device finds (there is one). -/
theorem V_pre (c : Dev nD) (j : Fin 4) : V m c (pre0.ref j) = tbl m j := by
  obtain rfl : c = 0 := Subsingleton.elim _ _; rfl

/-- The experts' table and the number of tiles in use, as launched. -/
abbrev teM : IVec S80 32 := m (((0 : Dev nD) : Thread nD τ).loc main_arg0)
abbrev nuM : IVec S1 32 := m (((0 : Dev nD) : Thread nD τ).loc main_arg1)

/-- What the precondition gives the launch of layer `l`'s kernel: every expert is one of the sixteen, and `nu`, at most eighty,
tiles are in use. -/
structure Fits (l : Fin 2) (nu : ℕ) : Prop where
  te : ∀ n, (teM m (ix1 n)).toNat < 16
  used : nuM m (ix1 0) = BitVec.ofNat 32 nu
  le : nu ≤ 80

theorem tbl_te : teOf (tbl m) = teM m := V_main_arg0 m 0
theorem tbl_nu : nuOf (tbl m) = nuM m := V_main_arg1 m 0
theorem tbl_fresh (n : Fin 80) : (tbl m 1 : IVec S80 32) (ix1 n) = BitVec.ofNat 32 (freshAt (teM m) n.val) :=
  (congrFun (V_main_v5 m 0) (ix1 n)).trans (freshTable_at _ n)
theorem tbl_slot (n : Fin 80) : (tbl m 2 : IVec S80 32) (ix1 n) = BitVec.ofNat 32 (slotAt (teM m) n.val) :=
  (congrFun (V_main_v9 m 0) (ix1 n)).trans (slotTable_at _ n)

variable {m} {l : Fin 2} {nu : ℕ}

/-- The tables are admissible. -/
theorem ok_of_fits (hf : Fits m l nu) : okL (F := F) l (tbl m) :=
  ok_of l (tbl m) (by rw [tbl_te]; exact hf.te) hf.le (by rw [tbl_nu]; exact hf.used)

/-- The tables as admissible contents, and the pipeline at them. -/
abbrev adm (hf : Fits m l nu) : (pcfgL (F := F) l).Adm := ⟨tbl m, ok_of_fits hf⟩
abbrev cfgM (hf : Fits m l nu) : Pipeline.Cfg sig Λ₀ := (pcfgL l).at (adm hf)

/-- The plan the tables make. -/
abbrev plan (hf : Fits m l nu) : Plan := planOf (teM m) nu hf.le

/-- The expert of a tile. -/
def expert (hf : Fits m l nu) (n : Fin 80) : Fin 16 := ⟨(teM m (ix1 n)).toNat, hf.te n⟩

/-- A window's block at a point, read off its array as the region finds it. -/
def iblk (hf : Fits m l nu) (c : Dev nD) (w : Fin (cfgM hf).W) (t : Fin (cfgM hf).N) :
    (((cfgM hf).win w).xblock ((cfgM hf).grid.coords t)).Idx → Elt F ((cfgM hf).win w).elt :=
  (((cfgM hf).win w).blk t).view.read (Elt F) (V m c (Pipeline.arrRef spec0 w))

/-- The weights of an expert of a layer: its gate and up projections, and its down projection. -/
def guBlock (l : Fin 2) (m : (ℓ : Loc nD τ sig) → Buf (Elt F) ℓ) (c : Dev nD) (e : Fin 16) : Vec F S1x1x1024x1024 .f32 :=
  fun y => (m ((c : Thread nD τ).loc main_arg3) : Vec F S2x16x1024x1024 .f32) (ix4 l e (y 2) (y 3))
def dnBlock (l : Fin 2) (m : (ℓ : Loc nD τ sig) → Buf (Elt F) ℓ) (c : Dev nD) (e : Fin 16) : Vec F S1x1x512x1024 .f32 :=
  fun y => (m ((c : Thread nD τ).loc main_arg4) : Vec F S2x16x512x1024 .f32) (ix4 l e (y 2) (y 3))
/-- The rows of a tile. -/
def rowBlock (m : (ℓ : Loc nD τ sig) → Buf (Elt F) ℓ) (c : Dev nD) (n : Fin 80) : Vec F S4096x128 .f32 :=
  fun y => (m ((c : Thread nD τ).loc main_arg2) : Vec F S327680x128 .f32) (ix2 ⟨4096 * n.val + (y 0).val, by have := (y 0).isLt; have := n.isLt; show _ < 327680; change (y 0).val < 4096 at *; omega⟩ (y 1))

/-- The tile of a point. -/
def tile (hf : Fits m l nu) (t : Fin (cfgM hf).N) : Fin 80 := ⟨t.val, Nat.lt_of_lt_of_eq t.isLt N_0⟩

theorem coord_eq (t : Fin grid0.N) : (grid0.coords t 0).val = t.val := by
  have ht : t.val < 80 := Nat.lt_of_lt_of_eq t.isLt N_0
  rw [show (grid0.coords t 0).val = t.val / 1 % 80 from Pipeline.Grid.coords_val t 0 (by decide) rfl]; omega

/-- An entry of an array of gate and up projections inside a block of one expert. -/
theorem gu_entry (l : Fin 2) (ix : Fin 4 → ℕ) (e : Fin 16) (h : ix = ![l.val, e.val, 0, 0]) (y : S1x1x1024x1024.Idx) (z : S2x16x1024x1024.Idx)
    (hz : ∀ a, (z a).val = ix a * S1x1x1024x1024.size a + 1 * (y a).val) : z = ix4 l e (y 2) (y 3) := by
  subst h
  funext a
  apply Fin.ext
  refine (hz a).trans ?_
  match a with
  | ⟨0, _⟩ => have h0 : (y 0).val < 1 := (y 0).isLt; show l.val * 1 + 1 * (y 0).val = l.val; omega
  | ⟨1, _⟩ => have h0 : (y 1).val < 1 := (y 1).isLt; show e.val * 1 + 1 * (y 1).val = e.val; omega
  | ⟨2, _⟩ => show 0 * 1024 + 1 * (y 2).val = (y 2).val; omega
  | ⟨3, _⟩ => show 0 * 1024 + 1 * (y 3).val = (y 3).val; omega

/-- An entry of an array of down projections inside a block of one expert. -/
theorem dn_entry (l : Fin 2) (ix : Fin 4 → ℕ) (e : Fin 16) (h : ix = ![l.val, e.val, 0, 0]) (y : S1x1x512x1024.Idx) (z : S2x16x512x1024.Idx)
    (hz : ∀ a, (z a).val = ix a * S1x1x512x1024.size a + 1 * (y a).val) : z = ix4 l e (y 2) (y 3) := by
  subst h
  funext a
  apply Fin.ext
  refine (hz a).trans ?_
  match a with
  | ⟨0, _⟩ => have h0 : (y 0).val < 1 := (y 0).isLt; show l.val * 1 + 1 * (y 0).val = l.val; omega
  | ⟨1, _⟩ => have h0 : (y 1).val < 1 := (y 1).isLt; show e.val * 1 + 1 * (y 1).val = e.val; omega
  | ⟨2, _⟩ => show 0 * 512 + 1 * (y 2).val = (y 2).val; omega
  | ⟨3, _⟩ => show 0 * 1024 + 1 * (y 3).val = (y 3).val; omega

/-- An entry of an array of rows inside a tile's block. -/
theorem row_entry (ix : Fin 2 → ℕ) (n : ℕ) (h : ix = ![n, 0]) (y : S4096x128.Idx) (z : S327680x128.Idx)
    (hz : ∀ a, (z a).val = ix a * S4096x128.size a + 1 * (y a).val) (w : Fin 327680) (hw : w.val = 4096 * n + (y 0).val) : z = ix2 w (y 1) := by
  subst h
  funext a
  apply Fin.ext
  refine (hz a).trans ?_
  match a with
  | ⟨0, _⟩ => show n * 4096 + 1 * (y 0).val = w.val; omega
  | ⟨1, _⟩ => show 0 * 128 + 1 * (y 1).val = (y 1).val; omega

/-- Window 1's block: the gate and up projections of the first tile's expert. -/
theorem blk1 (hf : Fits m l nu) (c : Dev nD) (t : Fin (cfgM hf).N) : iblk hf c 1 t = guBlock l m c (expert hf 0) := by
  funext y
  unfold iblk guBlock
  have e := layer1 l (tbl m) (grid0.coords t)
  rw [tbl_te] at e
  exact (congrFun (V_main_arg3 m c) _).trans <| congrArg (m ((c : Thread nD τ).loc main_arg3)) (gu_entry l _ (expert hf 0) e y _ fun a => rfl)

/-- Window 2's block: the gate and up projections of the next tile's expert. -/
theorem blk2 (hf : Fits m l nu) (c : Dev nD) (t : Fin (cfgM hf).N) : iblk hf c 2 t = guBlock l m c (expert hf (next t.val)) := by
  funext y
  unfold iblk guBlock
  have e := layer2 l (tbl m) (grid0.coords t)
  rw [tbl_te, coord_eq t] at e
  exact (congrFun (V_main_arg3 m c) _).trans <| congrArg (m ((c : Thread nD τ).loc main_arg3)) (gu_entry l _ (expert hf (next t.val)) e y _ fun a => rfl)

/-- Window 3's block: the down projection of the tile's expert. -/
theorem blk3 (hf : Fits m l nu) (c : Dev nD) (t : Fin (cfgM hf).N) : iblk hf c 3 t = dnBlock l m c (expert hf (tile hf t)) := by
  funext y
  unfold iblk dnBlock
  have e := layer3 l (tbl m) (grid0.coords t)
  rw [tbl_te, show (⟨(grid0.coords t 0).val, coord_lt _⟩ : Fin 80) = tile hf t from Fin.ext (coord_eq t)] at e
  exact (congrFun (V_main_arg4 m c) _).trans <| congrArg (m ((c : Thread nD τ).loc main_arg4)) (dn_entry l _ (expert hf (tile hf t)) e y _ fun a => rfl)

/-- Window 0's block, where the tile is in use: the tile's rows. -/
theorem blk0 (hf : Fits m l nu) (c : Dev nD) (t : Fin (cfgM hf).N) (hu : t.val < nu) : iblk hf c 0 t = rowBlock m c (tile hf t) := by
  funext y
  unfold iblk rowBlock
  have e := map0 (tbl m) (grid0.coords t) hf.le (by rw [tbl_nu]; exact hf.used)
  rw [coord_eq t, Nat.min_eq_left hu.le] at e
  exact (congrFun (V_main_arg2 m c) _).trans <| congrArg (m ((c : Thread nD τ).loc main_arg2)) (row_entry _ t.val e y _ (fun a => rfl) _ rfl)

end Cert.Experts

end
-- ==== Proof.Experts.Carry.lean ====
module

public import proofs.«01_k».proof.Proof.Experts.Data

/-!
What the expert kernel's scratch carries from tile to tile: the slot of the tile holds its expert's gate and up
projections, and the second scratch its down projection.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} {l : Fin 2} {nu : ℕ}

/-- The projections as the kernel keeps them, rounded to the narrow format. -/
abbrev guW (l : Fin 2) (m : (ℓ : Loc nD τ sig) → Buf (Elt F) ℓ) (c : Dev nD) (e : Fin 16) : Vec F S1x1024x1024 .bf16 := k0_pay1 (guBlock l m c e)
abbrev dnW (l : Fin 2) (m : (ℓ : Loc nD τ sig) → Buf (Elt F) ℓ) (c : Dev nD) (e : Fin 16) : Vec F S512x1024 .bf16 := k0_pay3 (dnBlock l m c e)

/-- A slot of the first scratch. -/
def slot (s0 : Vec F S2x1024x1024 .bf16) (p : ℕ) (hp : p < 2) : Vec F S1x1024x1024 .bf16 :=
  VecWindow.window s0 ![p, 0, 0] S1x1024x1024.size (slot_inb hp)

/-- Equal slots hold the same. -/
theorem slot_congr (s0 : Vec F S2x1024x1024 .bf16) (p q : ℕ) (h : p = q) (hp : p < 2) (hq : q < 2) : slot s0 p hp = slot s0 q hq := by
  subst h; rfl

/-- The slot just written holds what was written. -/
theorem slot_put_same (s0 : Vec F S2x1024x1024 .bf16) (p q : ℕ) (hp : p < 2) (h : p = q) (w : Vec F S1x1024x1024 .bf16) : slot (putSlot s0 q w) p hp = w := by
  subst h; exact VecWindow.window_put_same _ _ _ _ _

/-- The other slot is as before. -/
theorem slot_put_other (s0 : Vec F S2x1024x1024 .bf16) (p q : ℕ) (hp : p < 2) (h : p ≠ q) (w : Vec F S1x1024x1024 .bf16) :
    slot (putSlot s0 q w) p hp = slot s0 p hp := by
  refine VecWindow.window_put_of_disjoint _ _ _ _ _ _ _ 0 ?_
  show p + 1 ≤ q ∨ q + 1 ≤ p
  omega

/-- What the scratch holds before a tile in use: its slot the gate and up projections of its expert and, where the
expert is not new, the second scratch the down projection. Before the first tile nothing is asked. -/
def Carried (hf : Fits m l nu) (c : Dev nD) (n : ℕ) (s0 : Vec F S2x1024x1024 .bf16) (s1 : Vec F S512x1024 .bf16) : Prop :=
  ∀ h : n < 80, n ≠ 0 → n < nu →
    slot s0 (slotAt (teM m) n) (slotAt_lt _ _) = guW l m c (expert hf ⟨n, h⟩)
      ∧ (freshAt (teM m) n ≠ 1 → s1 = dnW l m c (expert hf ⟨n, h⟩))

variable (hf : Fits m l nu) (c : Dev nD) (n : Fin 80) (s0 : Vec F S2x1024x1024 .bf16) (s1 : Vec F S512x1024 .bf16)

/-- What the scratch holds after a tile's body. -/
abbrev next0 : Vec F S2x1024x1024 .bf16 :=
  slot2 (plan hf) n (slot1 (plan hf) n s0 (guBlock l m c (expert hf 0))) (guBlock l m c (expert hf (next n.val)))
abbrev next1 : Vec F S512x1024 .bf16 := down3 (plan hf) n s1 (dnBlock l m c (expert hf n))

/-- After the first stage the tile's slot holds its expert's projections. -/
theorem slot1_ok (hI : Carried hf c n.val s0 s1) (hn : n.val < nu) :
    slot (slot1 (plan hf) n s0 (guBlock l m c (expert hf 0))) (slotAt (teM m) n.val) (slotAt_lt _ _) = guW l m c (expert hf n) := by
  unfold slot1
  by_cases h0 : n.val = 0
  · rw [if_pos h0]
    obtain rfl : n = 0 := Fin.ext h0
    exact slot_put_same _ _ _ _ rfl _
  · rw [if_neg h0]; exact (hI n.isLt h0 hn).1

theorem next_val (h : n.val + 1 < nu) (hle : nu ≤ 80) : (next n.val).val = n.val + 1 := by
  unfold next; dsimp only; omega

/-- After the body the tile's slot still holds its expert's projections, -/
theorem slot_ok (hI : Carried hf c n.val s0 s1) (hn : n.val < nu) :
    slot (next0 hf c n s0) (slotAt (teM m) n.val) (slotAt_lt _ _) = guW l m c (expert hf n) := by
  unfold next0 slot2
  split_ifs with h
  · have hnx := next_val n h.1 hf.le
    have hfr : freshAt (teM m) (next n.val).val = 1 := h.2
    rw [hnx] at hfr
    refine (slot_put_other _ _ _ _ ?_ _).trans (slot1_ok hf c n s0 s1 hI hn)
    show slotAt (teM m) n.val ≠ slotAt (teM m) (next n.val).val
    rw [hnx]; exact (slotAt_fresh _ _ hfr).symm
  · exact slot1_ok hf c n s0 s1 hI hn

/-- and the second scratch its down projection. -/
theorem down_ok (hI : Carried hf c n.val s0 s1) (hn : n.val < nu) : next1 hf c n s1 = dnW l m c (expert hf n) := by
  unfold next1 down3
  split_ifs with h
  · rfl
  · have hfr : freshAt (teM m) n.val ≠ 1 := fun h1 => h ⟨hn, h1⟩
    have h0 : n.val ≠ 0 := fun h0 => hfr (by rw [h0]; exact freshAt_zero _)
    exact (hI n.isLt h0 hn).2 hfr

/-- So the next tile finds what it needs. -/
theorem carried_next (hI : Carried hf c n.val s0 s1) : Carried hf c (n.val + 1) (next0 hf c n s0) (next1 hf c n s1) := by
  intro h80 _ hlt
  have hnx : next n.val = ⟨n.val + 1, h80⟩ := Fin.ext (next_val n hlt hf.le)
  by_cases hfr : freshAt (teM m) (n.val + 1) = 1
  · refine ⟨?_, fun h => absurd hfr h⟩
    have hc : n.val + 1 < (plan hf).used ∧ (plan hf).fresh (next n.val) := ⟨hlt, by rw [hnx]; exact hfr⟩
    unfold next0 slot2
    rw [if_pos hc, hnx]
    exact slot_put_same _ _ _ _ rfl _
  · have hte : teM m (ix1 ⟨n.val + 1, h80⟩) = teM m (ix1 n) := expert_same (teM m) ⟨n.val + 1, h80⟩ (Nat.succ_ne_zero _) hfr
    have he : expert hf ⟨n.val + 1, h80⟩ = expert hf n := Fin.ext (congrArg BitVec.toNat hte :)
    rw [he]
    refine ⟨?_, fun _ => down_ok hf c n s0 s1 hI (by omega)⟩
    exact (slot_congr _ _ _ (slotAt_same (teM m) n.val hfr) _ _).trans (slot_ok hf c n s0 s1 hI (by omega))

/-- The tile's rows of the result: the expert's product where the tile is in use, else zeros. -/
def outTile : Vec F S4096x128 .f32 :=
  if n.val < nu then spread (prodTile (rowBlock m c n) (guW l m c (expert hf n)) (dnW l m c (expert hf n))) else k0_pay9 (F := F)

/-- That is what the body leaves in the tile's window. -/
theorem tile_ok (hI : Carried hf c n.val s0 s1) (x0 : Vec F S4096x128 .f32) (hx : n.val < nu → x0 = rowBlock m c n) :
    tile5 (plan hf) n x0 (next0 hf c n s0) (next1 hf c n s1) = outTile hf c n := by
  unfold tile5 outTile
  by_cases hn : n.val < nu
  · rw [if_pos (show n.val < (plan hf).used from hn), if_pos hn, hx hn, down_ok hf c n s0 s1 hI hn]
    exact congrArg (fun w => spread (prodTile (rowBlock m c n) w (dnW l m c (expert hf n)))) (slot_ok hf c n s0 s1 hI hn)
  · rw [if_neg (show ¬ n.val < (plan hf).used from hn), if_neg hn]

end Cert.Experts

end
-- ==== Proof.Experts.Sound.lean ====
module

public import proofs.«01_k».proof.Proof.Experts.Carry

/-!
The expert kernel's pipeline: what each buffer holds at each point, and that the body takes the invariant of one tile
to that of the next.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} {l : Fin 2} {nu : ℕ}

/-- A table's half the region hands the body. -/
theorem PhiT_eq (m : (ℓ : Loc nD τ sig) → Buf (Elt F) ℓ) (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The two scratch buffers. -/
abbrev scM0 : Memref sig .tc .vmem S2x1024x1024 .bf16 := Memref.whole cc0_scratch0
abbrev scM1 : Memref sig .tc .vmem S512x1024 .bf16 := Memref.whole cc0_scratch1

/-- The region's scratch, at anything, and the generator register. -/
theorem PhiA_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before a tile: the scratch at contents the tile can use, the generator register and the tables. -/
def Phi (hf : Fits m l nu) (c : Dev nD) (n : ℕ) : sProp 𝕄 :=
  iprop((∃ s0, ∃ s1, ⌜Carried hf c n s0 s1⌝ ∗ owns (c : Thread nD τ) scM0 fullShare s0 ∗ owns (c : Thread nD τ) scM1 fullShare s1)
    ∗ (∃ r, prngReg c r) ∗ Pipeline.ΦT pre0 (tbl m) c)

/-- The proof data of the pipeline: the arrays as the region finds them, each input's buffer at its block, the output's
at the tile's rows. -/
def dats (hf : Fits m l nu) (_ : Fin 1) (c : Dev nD) : Dat τ (Elt F) Unit ℕ (UR sig nD τ) ℕ (cfgM hf) c where
  A w := V m c (Pipeline.arrRef spec0 w)
  after w t := match w with
    | ⟨0, _⟩ => iblk hf c 0 t
    | ⟨1, _⟩ => iblk hf c 1 t
    | ⟨2, _⟩ => iblk hf c 2 t
    | ⟨3, _⟩ => iblk hf c 3 t
    | ⟨4, _⟩ => outTile hf c (tile hf t)
  Φ t := Phi hf c t.val
  q w := Pipeline.shareOf spec0 w
  owed _ := 0

variable (hf : Fits m l nu) (c : Dev nD)

theorem A_eq (w : Fin (cfgM hf).W) : (dats hf 0 c).A w = V m c (Pipeline.arrRef spec0 w) := by
  dsimp only [dats]

theorem after0 (t : Fin (cfgM hf).N) : (dats hf 0 c).after 0 t = iblk hf c 0 t := by dsimp only [dats]; try rfl
theorem after1 (t : Fin (cfgM hf).N) : (dats hf 0 c).after 1 t = iblk hf c 1 t := by dsimp only [dats]; try rfl
theorem after2 (t : Fin (cfgM hf).N) : (dats hf 0 c).after 2 t = iblk hf c 2 t := by dsimp only [dats]; try rfl
theorem after3 (t : Fin (cfgM hf).N) : (dats hf 0 c).after 3 t = iblk hf c 3 t := by dsimp only [dats]; try rfl
theorem after4 (t : Fin (cfgM hf).N) : (dats hf 0 c).after 4 t = outTile hf c (tile hf t) := by dsimp only [dats]; try rfl

/-- Each input's buffer holds its block at every point, fetched there or not. -/
theorem before0 (t : Fin (cfgM hf).N) (d) : (dats hf 0 c).before 0 t d = iblk hf c 0 t :=
  ((dats hf 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin (cfgM hf).N) (d) : (dats hf 0 c).before 1 t d = iblk hf c 1 t :=
  ((dats hf 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin (cfgM hf).N) (d) : (dats hf 0 c).before 2 t d = iblk hf c 2 t :=
  ((dats hf 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin (cfgM hf).N) (d) : (dats hf 0 c).before 3 t d = iblk hf c 3 t :=
  ((dats hf 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- A window's current buffer at a point. -/
abbrev ms0 (t : Fin (cfgM hf).N) : Memref sig .tc .vmem S4096x128 .f32 := spec0_0.stage ((cfgM hf).slots t 0)
abbrev ms1 (t : Fin (cfgM hf).N) : Memref sig .tc .vmem S1x1x1024x1024 .f32 := spec0_1.stage ((cfgM hf).slots t 1)
abbrev ms2 (t : Fin (cfgM hf).N) : Memref sig .tc .vmem S1x1x1024x1024 .f32 := spec0_2.stage ((cfgM hf).slots t 2)
abbrev ms3 (t : Fin (cfgM hf).N) : Memref sig .tc .vmem S1x1x512x1024 .f32 := spec0_3.stage ((cfgM hf).slots t 3)
abbrev ms4 (t : Fin (cfgM hf).N) : Memref sig .tc .vmem S4096x128 .f32 := spec0_4.stage ((cfgM hf).slots t 4)

/-- The kernel's body at a point, on what the pipeline calls it with. -/
abbrev bodyAt (t : Fin (cfgM hf).N) : Prog (TpuEff nD τ sig (Elt F) Λ₀ .tc) PUnit :=
  cc0_moe_experts (grid0.coords t) tbM0 (Memref.isWhole_whole _) tbM1 (Memref.isWhole_whole _) tbM2 (Memref.isWhole_whole _) tbM3 (Memref.isWhole_whole _)
    (ms0 hf t) (hstage0_0 (((cfgM hf).slots t 0).cast nbuf0_0)) (ms1 hf t) (hstage0_1 (((cfgM hf).slots t 1).cast nbuf0_1))
    (ms2 hf t) (hstage0_2 (((cfgM hf).slots t 2).cast nbuf0_2)) (ms3 hf t) (hstage0_3 (((cfgM hf).slots t 3).cast nbuf0_3))
    (ms4 hf t) (hstage0_4 (((cfgM hf).slots t 4).cast nbuf0_4)) scM0 (Memref.isWhole_whole _) scM1 (Memref.isWhole_whole _)

/-- What the body is called with at a point, the windows one by one, -/
def bodyPre (t : Fin (cfgM hf).N) : sProp 𝕄 :=
  iprop((dats hf 0 c).Φ t.castSucc ∗ (dats hf 0 c).owesAt () t.castSucc
    ∗ (∃ d, owns (c : Thread nD τ) (ms0 hf t) fullShare ((dats hf 0 c).before 0 t d))
    ∗ (∃ d, owns (c : Thread nD τ) (ms1 hf t) fullShare ((dats hf 0 c).before 1 t d))
    ∗ (∃ d, owns (c : Thread nD τ) (ms2 hf t) fullShare ((dats hf 0 c).before 2 t d))
    ∗ (∃ d, owns (c : Thread nD τ) (ms3 hf t) fullShare ((dats hf 0 c).before 3 t d))
    ∗ (∃ d, owns (c : Thread nD τ) (ms4 hf t) fullShare ((dats hf 0 c).before 4 t d)))

/-- and what it returns. -/
def bodyPost (t : Fin (cfgM hf).N) : sProp 𝕄 :=
  iprop((dats hf 0 c).Φ t.succ ∗ (dats hf 0 c).owesAt () t.succ
    ∗ owns (c : Thread nD τ) (ms0 hf t) fullShare ((dats hf 0 c).after 0 t)
    ∗ owns (c : Thread nD τ) (ms1 hf t) fullShare ((dats hf 0 c).after 1 t)
    ∗ owns (c : Thread nD τ) (ms2 hf t) fullShare ((dats hf 0 c).after 2 t)
    ∗ owns (c : Thread nD τ) (ms3 hf t) fullShare ((dats hf 0 c).after 3 t)
    ∗ owns (c : Thread nD τ) (ms4 hf t) fullShare ((dats hf 0 c).after 4 t))

/-- The inputs' blocks, at their buffers' shapes. -/
abbrev in0 (t : Fin (cfgM hf).N) : Vec F S4096x128 .f32 := iblk hf c 0 t
abbrev in1 (t : Fin (cfgM hf).N) : Vec F S1x1x1024x1024 .f32 := iblk hf c 1 t
abbrev in2 (t : Fin (cfgM hf).N) : Vec F S1x1x1024x1024 .f32 := iblk hf c 2 t
abbrev in3 (t : Fin (cfgM hf).N) : Vec F S1x1x512x1024 .f32 := iblk hf c 3 t

/-- The body at a point is the stages at its buffers. -/
theorem bodyAt_eq (t : Fin (cfgM hf).N) : bodyAt (F := F) hf t
    = staged (grid0.coords t) (ms0 hf t) (hstage0_0 (((cfgM hf).slots t 0).cast nbuf0_0)) (ms1 hf t) (hstage0_1 (((cfgM hf).slots t 1).cast nbuf0_1))
    (ms2 hf t) (hstage0_2 (((cfgM hf).slots t 2).cast nbuf0_2)) (ms3 hf t) (hstage0_3 (((cfgM hf).slots t 3).cast nbuf0_3))
    (ms4 hf t) (hstage0_4 (((cfgM hf).slots t 4).cast nbuf0_4)) scM0 (Memref.isWhole_whole _) scM1 (Memref.isWhole_whole _) := by
  unfold bodyAt
  rw [cc0_moe_experts_eq_skeleton]
  exact skel_eq_staged _ _ _ _ _ _ _ _ _ _ _ _ _ _ _

/-- The tables say what the plan says. -/
theorem fresh_word (n : Fin 80) : word c tbM1 (tbl m 1) n = 1#32 ↔ (plan hf).fresh n := by
  have e : word c tbM1 (tbl m 1) n = BitVec.ofNat 32 (freshAt (teM m) n.val) := tbl_fresh m n
  have := freshAt_le (teM m) n.val
  rw [e, show (1#32 : BitVec 32) = BitVec.ofNat 32 1 from rfl, WordCmp.ofNat_eq_ofNat_iff (by omega) (by omega)]
  rfl
theorem par_word (n : Fin 80) : word c tbM2 (tbl m 2) n = BitVec.ofNat 32 ((plan hf).par n) := tbl_slot m n
theorem used_word : word1 c tbM3 (tbl m 3) = BitVec.ofNat 32 (plan hf).used := (congrFun (tbl_nu m) (ix1 0)).trans hf.used

/-- What the body leaves in the result's window is the tile's rows. -/
theorem left_tile (t : Fin (cfgM hf).N) (s0 : Vec F S2x1024x1024 .bf16) (s1 : Vec F S512x1024 .bf16) (hI : Carried hf c t.val s0 s1) :
    tile5 (plan hf) (tile hf t) (in0 hf c t) (slot2 (plan hf) (tile hf t) (slot1 (plan hf) (tile hf t) s0 (in1 hf c t)) (in2 hf c t)) (down3 (plan hf) (tile hf t) s1 (in3 hf c t))
      = outTile hf c (tile hf t) := by
  rw [show in1 hf c t = guBlock l m c (expert hf 0) from blk1 hf c t, show in2 hf c t = guBlock l m c (expert hf (next (tile hf t).val)) from blk2 hf c t,
    show in3 hf c t = dnBlock l m c (expert hf (tile hf t)) from blk3 hf c t]
  exact tile_ok hf c (tile hf t) s0 s1 hI _ fun hn => blk0 hf c t hn

/-- What it leaves in the scratch serves the next tile. -/
theorem left_carried (t : Fin (cfgM hf).N) (s0 : Vec F S2x1024x1024 .bf16) (s1 : Vec F S512x1024 .bf16) (hI : Carried hf c t.val s0 s1) :
    Carried hf c (t.val + 1) (slot2 (plan hf) (tile hf t) (slot1 (plan hf) (tile hf t) s0 (in1 hf c t)) (in2 hf c t)) (down3 (plan hf) (tile hf t) s1 (in3 hf c t)) := by
  rw [show in1 hf c t = guBlock l m c (expert hf 0) from blk1 hf c t, show in2 hf c t = guBlock l m c (expert hf (next (tile hf t).val)) from blk2 hf c t,
    show in3 hf c t = dnBlock l m c (expert hf (tile hf t)) from blk3 hf c t]
  exact carried_next hf c (tile hf t) s0 s1 hI

set_option maxHeartbeats 3200000 in
/-- The body at any point, on plain contents. -/
theorem sound_plain (t : Fin (cfgM hf).N) (O : sProp 𝕄) (x : Vec F S4096x128 .f32) :
    iprop(Phi hf c t.val ∗ O ∗ owns (c : Thread nD τ) (ms0 hf t) fullShare (in0 hf c t) ∗ owns (c : Thread nD τ) (ms1 hf t) fullShare (in1 hf c t)
      ∗ owns (c : Thread nD τ) (ms2 hf t) fullShare (in2 hf c t) ∗ owns (c : Thread nD τ) (ms3 hf t) fullShare (in3 hf c t)
      ∗ owns (c : Thread nD τ) (ms4 hf t) fullShare x)
    ⊢ runs c (bodyAt hf t) iprop(Phi hf c (t.val + 1) ∗ O ∗ owns (c : Thread nD τ) (ms0 hf t) fullShare (in0 hf c t) ∗ owns (c : Thread nD τ) (ms1 hf t) fullShare (in1 hf c t)
      ∗ owns (c : Thread nD τ) (ms2 hf t) fullShare (in2 hf c t) ∗ owns (c : Thread nD τ) (ms3 hf t) fullShare (in3 hf c t)
      ∗ owns (c : Thread nD τ) (ms4 hf t) fullShare (outTile hf c (tile hf t))) := by
  rw [bodyAt_eq]
  unfold Phi
  rw [PhiT_eq]
  iintro ⟨⟨⟨%s0, %s1, %hI, HS0, HS1⟩, Hg, HT0, HT1, HT2, HT3⟩, Ho, H0, H1, H2, H3, H4⟩
  iapply (staged_run c (plan hf) (tile hf t) (grid0.coords t) (coord_eq t) _ _ _ _ _ _ _ _ _ _ _ _ _ _ (tbl m 1) (tbl m 2) (tbl m 3)
    (fresh_word hf c) (par_word hf c) (used_word hf c) _ (in0 hf c t) (in1 hf c t) (in2 hf c t) (in3 hf c t) x s0 s1)
  rw [left_tile hf c t s0 s1 hI]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT1]; · iexact HT1
  isplitl [HT2]; · iexact HT2
  isplitl [HT3]; · iexact HT3
  iintro ⟨H0, H1, H2, H3, H4, HS0, HS1, HT1, HT2, HT3⟩
  isplitl [HS0 HS1 Hg HT0 HT1 HT2 HT3]
  · isplitl [HS0 HS1]
    · iexists _; iexists _
      isplitr
      swap
      · isplitl [HS0]; · iexact HS0
        iexact HS1
      ipureintro
      exact left_carried hf c t s0 s1 hI
    isplitl [Hg]; · iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

end Cert.Experts

end
-- ==== Proof.Experts.Frame.lean ====
module

public import proofs.«01_k».proof.Proof.Experts.Sound

/-!
The expert kernel's run: every weakly fair execution ends, with the result's tiles as the kernel's bodies leave them
and every other array as launched.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} {l : Fin 2} {nu : ℕ}

variable (hf : Fits m l nu) (c : Dev nD)

set_option maxHeartbeats 1600000 in
/-- The body at any point, on what the pipeline hands it. -/
theorem sound_body (t : Fin (cfgM hf).N) :
    bodyPre hf c t ⊢ wp frame (wpE (defs₀ (F := F)) Variants.none c none) Set.univ (bodyAt hf t) (fun _ => bodyPost hf c t) := by
  unfold bodyPre bodyPost
  simp only [before0, before1, before2, before3]
  rw [show (dats hf 0 c).owesAt () t.succ = (dats hf 0 c).owesAt () t.castSucc from rfl, after0, after1, after2, after3, after4,
    show (dats hf 0 c).Φ t.succ = Phi hf c (t.val + 1) from rfl, show (dats hf 0 c).Φ t.castSucc = Phi hf c t.val from rfl]
  iintro ⟨HP, Ho, ⟨%d0, H0⟩, ⟨%d1, H1⟩, ⟨%d2, H2⟩, ⟨%d3, H3⟩, ⟨%d4, H4⟩⟩
  iapply (sound_plain hf c t ((dats hf 0 c).owesAt () t.castSucc) ((dats hf 0 c).before 4 t d4))
  isplitl [HP]; · iexact HP
  isplitl [Ho]; · iexact Ho
  isplitl [H0]; · iexact H0
  isplitl [H1]; · iexact H1
  isplitl [H2]; · iexact H2
  isplitl [H3]; · iexact H3
  iexact H4

/-- The body table's row at a point is the body there. -/
theorem defs₀_row (t : Fin (cfgM hf).N) :
    defs₀ (F := F) .tc (cfgM hf).body ((cfgM hf).bodyArgs t ((cfgM hf).slots t)) = bodyAt hf t := by
  unfold defs₀; rw [Defs.onTc_tc]

/-- The number of tiles in use, as the launch reads it. -/
theorem used_at (pf : pre0.Contents (Elt F)) (h : nuOf pf (ix1 0) = BitVec.ofNat 32 nu) : pf.atD 3 ![0] = BitVec.ofNat 32 nu := by
  refine (dif_pos (show ∀ a : Fin 1, (![0] : Fin 1 → ℕ) a + 1 ≤ S1.size a from by decide)).trans (Eq.trans ?_ h)
  refine congrArg (nuOf pf) (funext fun a => ?_)
  match a with | ⟨0, _⟩ => rfl

/-- The result's window is stored at every point: in use or not, one of the last two stages stores it. -/
theorem stored (pf : pre0.Contents (Elt F)) (hle : nu ≤ 80) (h : nuOf pf (ix1 0) = BitVec.ofNat 32 nu) (i : grid0.Coords) : idle0 pf 4 i = false := by
  dsimp only [idle0]
  rw [used_at pf h]
  by_cases h : (i 0).val < nu
  · rw [(cond4_iff i hle).mpr h]; rfl
  · rw [(cond5_iff i hle).mpr h, Bool.and_comm]; rfl

/-- The library's body obligation, at every point. -/
theorem body_obligation : BodyObligation (dats (F := F) hf 0 c) (defs₀ (F := F)) Variants.none () Set.univ := fun t => by
  refine triple_restated (sound_body hf c t) (congrArg (fun p => wp frame (wpE (defs₀ (F := F)) Variants.none c none) Set.univ p) (defs₀_row hf t).symm) ?_ fun _ => ?_
  · rw [bigSep_W0]; exact .rfl
  · rw [bigSep_W0]
    unfold bodyPost
    refine sep_mono .rfl (sep_mono .rfl (sep_mono .rfl (sep_mono .rfl (sep_mono .rfl (sep_mono .rfl ?_)))))
    dsimp only
    have e : nuOf (tbl m) (ix1 0) = BitVec.ofNat 32 nu := by rw [tbl_nu]; exact hf.used
    split
    next h => exact absurd (h.symm.trans (stored (tbl m) hf.le e _)) (by decide)
    next h => exact .rfl

/-- What the launch hands the region is the invariant before the first point, -/
theorem hin : iprop(Pipeline.ΦA spec0 c ∗ Pipeline.ΦT pre0 (tbl m) c) ⊢ (dats hf 0 c).Φ 0 := by
  rw [show (dats hf 0 c).Φ 0 = Phi hf c 0 from rfl, PhiA_eq]
  unfold Phi
  iintro ⟨⟨⟨⟨%s0, HS0⟩, ⟨%s1, HS1⟩⟩, Hg⟩, HT⟩
  isplitl [HS0 HS1]
  · iexists s0; iexists s1
    isplitr
    swap
    · isplitl [HS0]; · iexact HS0
      iexact HS1
    ipureintro
    exact fun _ h => absurd rfl h
  isplitl [Hg]; · iexact Hg
  iexact HT

/-- and the invariant after the last point gives the scratch back. -/
theorem hout : (dats hf 0 c).Φ (Fin.last (cfgM hf).N) ⊢ Pipeline.ΦA spec0 c := by
  rw [show (dats hf 0 c).Φ (Fin.last (cfgM hf).N) = Phi hf c (Fin.last (cfgM hf).N).val from rfl, PhiA_eq]
  unfold Phi
  iintro ⟨⟨%s0, %s1, -, HS0, HS1⟩, Hg, -⟩
  isplitl [HS0 HS1]
  · isplitl [HS0]
    · iexists _; iexact HS0
    iexists _; iexact HS1
  iexact Hg

variable (m) (ρ : Dev nD → PrngReg)

set_option backward.isDefEq.respectTransparency.types false in
/-- The launch: every weakly fair execution ends, with the arrays as the pipeline leaves them and every counter at zero. -/
theorem run_quiescent : θ_run (defsL l) (onTc (τ := τ) (mainL (F := F) l)) ⟨m, fun _ => 0, ρ⟩
    (fun r => (Pipeline.FramePost (Pipeline.pin (pcfgsL l) fun _ => adm hf) (dats hf) 0 (V m)) r ∧ r.2.sem = fun _ => 0) :=
  Pipeline.θ_run_frameP_track_shared (Q' := _) (pcfgsL l) (fun _ => adm hf) (dats hf) (0 : Fin 1) (launchL l) defs₀ Variants.none m ρ (mainL l)
    (hbody := fun c => (body_obligation hf c).loose) (hq := fun _ _ _ => rfl)
    (howed := fun _ _ => rfl) (V := V m) (hmain := hmain l m Variants.none) (hA := A_eq hf) (hpf := V_pre m)
    (hin := hin hf) (hout := hout hf)

/-- What the run leaves: the result as the tiles' bodies wrote it, every argument as launched, every counter at zero. -/
theorem run : θ_run (defsL l) (onTc (τ := τ) (mainL (F := F) l)) ⟨m, fun _ => 0, ρ⟩ (fun r => (∀ c : Dev nD,
      r.2.mem ((c.tc : Thread nD τ).loc main_v10) = (dats hf 0 c).arrAt 4 (cfgM hf).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defsL l) _ _).mono (fun r h => ⟨fun c => ⟨(h.1 c).1 4,
    ((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).1 0).trans (((dats hf 0 c).arrAt_in 0 rfl _).trans ((A_eq hf c 0).trans (V_main_arg2 m c))),
    ((h.1 c).1 1).trans (((dats hf 0 c).arrAt_in 1 rfl _).trans ((A_eq hf c 1).trans (V_main_arg3 m c))),
    ((h.1 c).1 3).trans (((dats hf 0 c).arrAt_in 3 rfl _).trans ((A_eq hf c 3).trans (V_main_arg4 m c)))⟩, h.2⟩) (run_quiescent m hf ρ)

end Cert.Experts

end
-- ==== Proof.Experts.Pre.lean ====
module

public import proofs.«01_k».proof.Proof.Experts.Data
public import Idealize.ShloMosaic.Lib.ReduceAll
public import proofs.«01_k».proof.Proof.Gen.Pre_experts_pre

/-!
What the precondition says of the tables: every tile's expert is one of the 16, and at most the 80 tiles are used.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word between 0 and a small bound, read signed, is below the bound. -/
theorem word_lt (x : BitVec 32) (b : ℕ) (hb : b < 2 ^ 31) (h0 : 0 ≤ x.toInt) (h1 : x.toInt < b) : x.toNat < b := by
  have hx := x.isLt
  have h := BitVec.toInt_eq_toNat_cond x
  split at h <;> omega

/-- A bit and a bit is 1 only if both are. -/
theorem andi_one {a b : BitVec 1} (h : IntOp.andi a b = 1#1) : a = 1#1 ∧ b = 1#1 := by
  revert h; revert a b; decide

/-- The precondition of arrays says their bounds. -/
theorem bounds_of_pre (te : IVec S80 32) (nu' : IVec S1 32) (x : FVec F S327680x128 .f32) (w : FVec F S2x16x1024x1024 .f32) (d : FVec F S2x16x512x1024 .f32)
    (h : Cert.Pre_experts_pre.fn (F := F) te nu' x w d = fun _ => 1#1) :
    (∀ n, (te (ix1 n)).toNat < 16) ∧ (nu' (ix1 0)).toNat < 81 := by
  obtain ⟨h1, h2⟩ := andi_one (congrFun h fun a => a.elim0)
  refine ⟨fun n => ?_, ?_⟩
  · obtain ⟨a, b⟩ := andi_one (Host.reduce_andi_all _ _ _ _ _ h1 (ix1 n))
    exact word_lt _ 16 (by decide) (IntOp.cmpi_sge.1 a) (IntOp.cmpi_slt.1 b)
  · obtain ⟨a, b⟩ := andi_one (Host.reduce_andi_all _ _ _ _ _ h2 (ix1 0))
    exact word_lt _ 81 (by decide) (IntOp.cmpi_sge.1 a) (Int.lt_add_one_of_le (IntOp.cmpi_sle.1 b))

/-- Tables within their bounds fit. -/
theorem fits_of_bounds (l : Fin 2) (m : (ℓ : Loc nD τ sig) → Buf (Elt F) ℓ) (h : (∀ n, (teM m (ix1 n)).toNat < 16) ∧ (nuM m (ix1 0)).toNat < 81) :
    Fits m l (nuM m (ix1 0)).toNat :=
  ⟨h.1, BitVec.eq_of_toNat_eq (by rw [BitVec.toNat_ofNat, Nat.mod_eq_of_lt (BitVec.isLt _)]), Nat.le_of_lt_succ h.2⟩

end Cert.Experts

end
-- ==== Proof.Experts.Product.lean ====
module

public import proofs.«01_k».proof.Proof.Experts.Carry
public import Idealize.ShloMosaic.Lib.Pointwise

/-!
A tile's product, entry by entry: with `T` the tile's rows, `W` the gate and up projections and `D` the down
projection, the sum over the hidden units of the gated unit times the down projection.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A gated hidden unit. -/
def gated (gate up : EReal) : EReal := gate * Ideal.logistic gate * up

/-- A row of the tile's array as a row of 1024 entries. -/
def rowAt (x : Vec Ideal S4096x128 .f32) (r : Fin 512) (k : Fin 1024) : EReal :=
  x (ix2 ⟨8 * r.val + k.val / 128, by omega⟩ ⟨k.val % 128, Nat.mod_lt _ (by decide)⟩)

/-- An entry of a plane is an entry of the row. -/
theorem plane_row (x : Vec Ideal S4096x128 .f32) (r : Fin 512) (k : Fin 1024) (p : Fin 8) (l : Fin 128) (h : k.val = 128 * p.val + l.val) :
    plane x p (ix2 r l) = rowAt x r k := by
  unfold plane rowAt
  refine congrArg x (congrArg₂ ix2 (Fin.ext ?_) (Fin.ext ?_))
  · show p.val + 8 * r.val = 8 * r.val + k.val / 128; omega
  · show l.val = k.val % 128; omega

/-- The planes side by side are the row. -/
theorem planes_row (x : Vec Ideal S4096x128 .f32) (r : Fin 512) (k : Fin 1024) :
    concatenate S512x1024 1 [⟨S512x128, plane x 0⟩, ⟨S512x128, plane x 1⟩, ⟨S512x128, plane x 2⟩, ⟨S512x128, plane x 3⟩, ⟨S512x128, plane x 4⟩,
      ⟨S512x128, plane x 5⟩, ⟨S512x128, plane x 6⟩, ⟨S512x128, plane x 7⟩]
      concatenates_S512x128_S512x128_S512x128_S512x128_S512x128_S512x128_S512x128_S512x128_S512x1024_d1 (ix2 r k) = rowAt x r k := by
  pointwise []
  split_ifs
  all_goals exact plane_row x r k _ _ (by simp only [Fin.isValue, Fin.val_zero, Fin.val_one, Fin.val_ofNat]; omega)

/-- The tile's product at an entry. -/
theorem prodTile_at (x : Vec Ideal S4096x128 .f32) (w : Vec Ideal S1x1024x1024 .bf16) (d : Vec Ideal S512x1024 .bf16) (r : Fin 512) (j : Fin 1024) :
    prodTile x w d (ix2 r j) = ∑ u : Fin 512, gated (∑ k : Fin 1024, rowAt x r k * w (ix3 0 k ⟨u.val, by omega⟩))
      (∑ k : Fin 1024, rowAt x r k * w (ix3 0 k ⟨512 + u.val, by omega⟩)) * d (ix2 u j) := by
  simp only [← planes_row]
  unfold gated
  pointwise [prodTile, k0_pay10]

end Cert.Experts

end
-- ==== Proof.Experts.RefPart.lean ====
module

public import proofs.«01_k».proof.Proof.Gen.Reference2Ideal.Run
public import proofs.«01_k».proof.Proof.Experts.Product

/-!
One expert's part of the reference at an entry: the weight of the row for the expert times the row's product.
-/

@[expose] public section

set_option maxRecDepth 65536

noncomputable section

namespace Cert.Reference2Ideal.Experts

open Cert.Reference2Ideal Cert.Reference2Ideal.Gen
open Idealize.ShloMosaic Idealize.ShloMosaic.TcCoe Idealize.ShloMosaic.Tactic
open Cert.Experts (gated)

/-- The weighted product of the rows with one expert's matrices. -/
def core (tok : FVec Ideal S40960x1024 .f32) (cm : FVec Ideal S40960x1 .f32) (w : FVec Ideal S1024x1024 .f32) (d : FVec Ideal S512x1024 .f32) :
    FVec Ideal S40960x1024 .f32 :=
  mulf (broadcastInDim S40960x1024 ![0, 1] bcast_S40960x1_S40960x1024_0_1 cm)
    (Host.dotGeneral dot_S40960x512_S512x1024_S40960x1024_1_0_0_1_n_n none
      (mulf (mulf (extractStridedSlice S40960x512 ![0, 0] (Host.dotGeneral dot_S40960x1024_S1024x1024_S40960x1024_1_0_0_1_n_n none tok w) slices_S40960x1024_S40960x512_0_0)
        (Host.divf (broadcastInDim S40960x512 ![] bcast_S_S40960x512 (constant S_ .f32 0x3F800000#32))
          (addf (broadcastInDim S40960x512 ![] bcast_S_S40960x512 (constant S_ .f32 0x3F800000#32))
            (Host.exp (Host.negf (extractStridedSlice S40960x512 ![0, 0] (Host.dotGeneral dot_S40960x1024_S1024x1024_S40960x1024_1_0_0_1_n_n none tok w) slices_S40960x1024_S40960x512_0_0))))))
        (extractStridedSlice S40960x512 ![0, 512] (Host.dotGeneral dot_S40960x1024_S1024x1024_S40960x1024_1_0_0_1_n_n none tok w) slices_S40960x1024_S40960x512_0_512)) d)

/-- The weighted product at an entry. -/
theorem core_at (tok : FVec Ideal S40960x1024 .f32) (cm : FVec Ideal S40960x1 .f32) (w : FVec Ideal S1024x1024 .f32) (d : FVec Ideal S512x1024 .f32)
    (r : Fin 40960) (j : Fin 1024) :
    core tok cm w d (ix2 r j) = cm (ix2 r 0) * ∑ u : Fin 512, gated (∑ k : Fin 1024, tok (ix2 r k) * w (ix2 k ⟨u.val, by omega⟩))
      (∑ k : Fin 1024, tok (ix2 r k) * w (ix2 k ⟨512 + u.val, by omega⟩)) * d (ix2 u j) := by
  unfold gated Ideal.logistic
  pointwise [core]

/-- One expert's part, the expert's matrices cut from the stacks. -/
def part (e : ℕ) (h1 : S16x1024x1024.Slices ![e, 0, 0] S1x1024x1024) (h2 : S40960x16.Slices ![0, e] S40960x1) (h3 : S16x512x1024.Slices ![e, 0, 0] S1x512x1024)
    (tok : FVec Ideal S40960x1024 .f32) (cm : FVec Ideal S40960x16 .f32) (w : FVec Ideal S16x1024x1024 .f32) (d : FVec Ideal S16x512x1024 .f32) :
    FVec Ideal S40960x1024 .f32 :=
  core tok (extractStridedSlice S40960x1 ![0, e] cm h2) (shapeCast _ (extractStridedSlice S1x1024x1024 ![e, 0, 0] w h1) shapeCasts_S1x1024x1024_S1024x1024)
    (shapeCast _ (extractStridedSlice S1x512x1024 ![e, 0, 0] d h3) shapeCasts_S1x512x1024_S512x1024)

/-- The weights' column of an expert. -/
theorem column_at (cm : FVec Ideal S40960x16 .f32) (e : Fin 16) (h : S40960x16.Slices ![0, e.val] S40960x1) (r : Fin 40960) :
    extractStridedSlice S40960x1 ![0, e.val] cm h (ix2 r 0) = cm (ix2 r e) :=
  extractStridedSlice_apply _ cm h _ _ fun a => by
    match a with
    | ⟨0, _⟩ => show r.val = 0 + r.val; omega
    | ⟨1, _⟩ => show e.val = e.val + 0; omega

/-- An expert's first matrix. -/
theorem first_at (w : FVec Ideal S16x1024x1024 .f32) (e : Fin 16) (h : S16x1024x1024.Slices ![e.val, 0, 0] S1x1024x1024) (k j : Fin 1024) :
    (shapeCast S1024x1024 (extractStridedSlice S1x1024x1024 ![e.val, 0, 0] w h) shapeCasts_S1x1024x1024_S1024x1024) (ix2 k j) = w (ix3 e k j) :=
  (shapeCast_apply _ _ _ (ix3 0 k j) (by simp [Shape.rowMajor_val_two, Shape.rowMajor_val_three])).trans
    (extractStridedSlice_apply _ w h _ _ fun a => by
      match a with
      | ⟨0, _⟩ => show e.val = e.val + 0; omega
      | ⟨1, _⟩ => show k.val = 0 + k.val; omega
      | ⟨2, _⟩ => show j.val = 0 + j.val; omega)

/-- An expert's second matrix. -/
theorem second_at (d : FVec Ideal S16x512x1024 .f32) (e : Fin 16) (h : S16x512x1024.Slices ![e.val, 0, 0] S1x512x1024) (k : Fin 512) (j : Fin 1024) :
    (shapeCast S512x1024 (extractStridedSlice S1x512x1024 ![e.val, 0, 0] d h) shapeCasts_S1x512x1024_S512x1024) (ix2 k j) = d (ix3 e k j) :=
  (shapeCast_apply _ _ _ (ix3 0 k j) (by simp [Shape.rowMajor_val_two, Shape.rowMajor_val_three])).trans
    (extractStridedSlice_apply _ d h _ _ fun a => by
      match a with
      | ⟨0, _⟩ => show e.val = e.val + 0; omega
      | ⟨1, _⟩ => show k.val = 0 + k.val; omega
      | ⟨2, _⟩ => show j.val = 0 + j.val; omega)

/-- One expert's part at an entry. -/
theorem part_at (e : Fin 16) (h1 : S16x1024x1024.Slices ![e.val, 0, 0] S1x1024x1024) (h2 : S40960x16.Slices ![0, e.val] S40960x1) (h3 : S16x512x1024.Slices ![e.val, 0, 0] S1x512x1024)
    (tok : FVec Ideal S40960x1024 .f32) (cm : FVec Ideal S40960x16 .f32) (w : FVec Ideal S16x1024x1024 .f32) (d : FVec Ideal S16x512x1024 .f32)
    (r : Fin 40960) (j : Fin 1024) :
    part e.val h1 h2 h3 tok cm w d (ix2 r j) = cm (ix2 r e) * ∑ u : Fin 512, gated (∑ k : Fin 1024, tok (ix2 r k) * w (ix3 e k ⟨u.val, by omega⟩))
      (∑ k : Fin 1024, tok (ix2 r k) * w (ix3 e k ⟨512 + u.val, by omega⟩)) * d (ix3 e u j) := by
  unfold part
  rw [core_at]
  simp only [column_at, first_at, second_at]

end Cert.Reference2Ideal.Experts

end
-- ==== Proof.Experts.RefValue.lean ====
module

public import proofs.«01_k».proof.Proof.Experts.RefPart

/-!
The reference's result at an entry: the product of the row's own expert where the row's tile is used, 0 elsewhere.
-/

@[expose] public section

set_option maxRecDepth 65536

noncomputable section

namespace Cert.Reference2Ideal.Experts

open Cert.Reference2Ideal Cert.Reference2Ideal.Gen Cert.Reference2Ideal.Value
open Idealize.ShloMosaic Idealize.ShloMosaic.TcCoe Idealize.ShloMosaic.Tactic Idealize.ShloMosaic.StableHlo
open Cert.Experts (gated)

/-- The rows. -/
def tok (xs : FVec Ideal S327680x128 .f32) : FVec Ideal S40960x1024 .f32 := shapeCast _ xs shapeCasts_S327680x128_S40960x1024

/-- The weights of the rows for the experts. -/
def comb (te : IVec S80 32) (nu : IVec S1 32) : FVec Ideal S40960x16 .f32 :=
  mulf (uitofp .f32 (cmpi .eq (broadcastInDim S40960x16 ![0, 1] bcast_S40960x1_S40960x16_0_1 (broadcastInDim S40960x1 ![0] bcast_S40960_S40960x1_0 (shapeCast _ (broadcastInDim S80x512 ![0] bcast_S80_S80x512_0 te) shapeCasts_S80x512_S40960))) (broadcastInDim S40960x16 ![0, 1] bcast_S1x16_S40960x16_0_1 (iotaInDim S1x16 32 1)))) (broadcastInDim S40960x16 ![0, 1] bcast_S40960x1_S40960x16_0_1 (broadcastInDim S40960x1 ![0] bcast_S40960_S40960x1_0 (uitofp .f32 (cmpi .slt (shapeCast _ (broadcastInDim S80x512 ![0] bcast_S80_S80x512_0 (iotaInDim S80 32 0)) shapeCasts_S80x512_S40960) (broadcastInDim S40960 ![] bcast_S_S40960 (shapeCast _ nu shapeCasts_S1_S_))))))

/-- A layer's half of the first matrices lies in the array, -/
theorem half_first : ∀ l : Fin 2, S2x16x1024x1024.Slices ![l.val, 0, 0, 0] S1x16x1024x1024 := by decide
/-- and of the second. -/
theorem half_second : ∀ l : Fin 2, S2x16x512x1024.Slices ![l.val, 0, 0, 0] S1x16x512x1024 := by decide

/-- The layer's experts' first matrices. -/
def first (l : Fin 2) (w : FVec Ideal S2x16x1024x1024 .f32) : FVec Ideal S16x1024x1024 .f32 :=
  shapeCast _ (extractStridedSlice S1x16x1024x1024 ![l.val, 0, 0, 0] w (half_first l)) shapeCasts_S1x16x1024x1024_S16x1024x1024

/-- The layer's experts' second matrices. -/
def second (l : Fin 2) (d : FVec Ideal S2x16x512x1024 .f32) : FVec Ideal S16x512x1024 .f32 :=
  shapeCast _ (extractStridedSlice S1x16x512x1024 ![l.val, 0, 0, 0] d (half_second l)) shapeCasts_S1x16x512x1024_S16x512x1024

/-- A row's weight for an expert: 1 for the tile's expert if the tile is used, 0 otherwise. -/
theorem comb_at (te : IVec S80 32) (nu : IVec S1 32) (hn : (nu (ix1 0)).toNat ≤ 80) (r : Fin 40960) (e : Fin 16) :
    comb te nu (ix2 r e) = if te (ix1 ⟨r.val / 512, by omega⟩) = BitVec.ofNat 32 e.val ∧ r.val / 512 < (nu (ix1 0)).toNat then 1 else 0 := by
  have h : comb te nu (ix2 r e) = FloatOps.uitofp (F := Ideal) .f32 (IntOp.cmpi .eq (te (ix1 ⟨r.val / 512, by omega⟩)) (BitVec.ofNat 32 e.val))
      * FloatOps.uitofp (F := Ideal) .f32 (IntOp.cmpi .slt (BitVec.ofNat 32 (r.val / 512)) (nu (ix1 0))) := by
    pointwise [comb]
  rw [h]
  have h2 : IntOp.cmpi .slt (BitVec.ofNat 32 (r.val / 512)) (nu (ix1 0)) = BitVec.ofBool (decide (r.val / 512 < (nu (ix1 0)).toNat)) := by
    have hr : (BitVec.ofNat 32 (r.val / 512)).toNat = r.val / 512 := by rw [BitVec.toNat_ofNat]; omega
    rw [WordCmp.cmpi_slt_of_lt (by rw [hr]; omega) (by omega), hr]
  have h1 : IntOp.cmpi .eq (te (ix1 ⟨r.val / 512, by omega⟩)) (BitVec.ofNat 32 e.val)
      = BitVec.ofBool (decide (te (ix1 ⟨r.val / 512, by omega⟩) = BitVec.ofNat 32 e.val)) := by
    unfold IntOp.cmpi; exact congrArg BitVec.ofBool (beq_eq_decide _ _)
  rw [h1, h2]
  by_cases a : te (ix1 ⟨r.val / 512, by omega⟩) = BitVec.ofNat 32 e.val <;> by_cases b : r.val / 512 < (nu (ix1 0)).toNat <;>
    simp [a, b, FloatOps.uitofp]

/-- The rows at an entry. -/
theorem tok_at (xs : FVec Ideal S327680x128 .f32) (r : Fin 40960) (k : Fin 1024) :
    tok xs (ix2 r k) = xs (ix2 ⟨8 * r.val + k.val / 128, by omega⟩ ⟨k.val % 128, Nat.mod_lt _ (by decide)⟩) :=
  shapeCast_apply _ _ _ _ (by
    simp only [Shape.rowMajor_val_two]; show (8 * r.val + k.val / 128) * 128 + k.val % 128 = r.val * 1024 + k.val; omega)

/-- An expert's first matrix at an entry. -/
theorem first_at' (l : Fin 2) (w : FVec Ideal S2x16x1024x1024 .f32) (e : Fin 16) (k j : Fin 1024) : first l w (ix3 e k j) = w (ix4 l e k j) := by
  have h (g : FVec Ideal S1x16x1024x1024 .f32) :
      shapeCast S16x1024x1024 g shapeCasts_S1x16x1024x1024_S16x1024x1024 (ix3 e k j) = g (ix4 0 e k j) := by pointwise []
  exact (h _).trans (extractStridedSlice_apply _ w (half_first l) _ _ fun a => by
    match a with
    | ⟨0, _⟩ => show l.val = l.val + 0; omega
    | ⟨1, _⟩ => show e.val = 0 + e.val; omega
    | ⟨2, _⟩ => show k.val = 0 + k.val; omega
    | ⟨3, _⟩ => show j.val = 0 + j.val; omega)

/-- An expert's second matrix at an entry. -/
theorem second_at' (l : Fin 2) (d : FVec Ideal S2x16x512x1024 .f32) (e : Fin 16) (k : Fin 512) (j : Fin 1024) : second l d (ix3 e k j) = d (ix4 l e k j) := by
  have h (g : FVec Ideal S1x16x512x1024 .f32) :
      shapeCast S16x512x1024 g shapeCasts_S1x16x512x1024_S16x512x1024 (ix3 e k j) = g (ix4 0 e k j) := by pointwise []
  exact (h _).trans (extractStridedSlice_apply _ d (half_second l) _ _ fun a => by
    match a with
    | ⟨0, _⟩ => show l.val = l.val + 0; omega
    | ⟨1, _⟩ => show e.val = 0 + e.val; omega
    | ⟨2, _⟩ => show k.val = 0 + k.val; omega
    | ⟨3, _⟩ => show j.val = 0 + j.val; omega)

/-- The reference's rows. -/
def rows (l : Fin 2) (te : IVec S80 32) (nu : IVec S1 32) (xs : FVec Ideal S327680x128 .f32) (w : FVec Ideal S2x16x1024x1024 .f32) (d : FVec Ideal S2x16x512x1024 .f32) :
    FVec Ideal S40960x1024 .f32 :=
  addf (addf (addf (addf (addf (addf (addf (addf (addf (addf (addf (addf (addf (addf (addf (addf (broadcastInDim S40960x1024 ![] bcast_S_S40960x1024 (constant S_ .f32 0x00000000#32))
      (part 0 slices_S16x1024x1024_S1x1024x1024_0_0_0 slices_S40960x16_S40960x1_0_0 slices_S16x512x1024_S1x512x1024_0_0_0 (tok xs) (comb te nu) (first l w) (second l d)))
      (part 1 slices_S16x1024x1024_S1x1024x1024_1_0_0 slices_S40960x16_S40960x1_0_1 slices_S16x512x1024_S1x512x1024_1_0_0 (tok xs) (comb te nu) (first l w) (second l d)))
      (part 2 slices_S16x1024x1024_S1x1024x1024_2_0_0 slices_S40960x16_S40960x1_0_2 slices_S16x512x1024_S1x512x1024_2_0_0 (tok xs) (comb te nu) (first l w) (second l d)))
      (part 3 slices_S16x1024x1024_S1x1024x1024_3_0_0 slices_S40960x16_S40960x1_0_3 slices_S16x512x1024_S1x512x1024_3_0_0 (tok xs) (comb te nu) (first l w) (second l d)))
      (part 4 slices_S16x1024x1024_S1x1024x1024_4_0_0 slices_S40960x16_S40960x1_0_4 slices_S16x512x1024_S1x512x1024_4_0_0 (tok xs) (comb te nu) (first l w) (second l d)))
      (part 5 slices_S16x1024x1024_S1x1024x1024_5_0_0 slices_S40960x16_S40960x1_0_5 slices_S16x512x1024_S1x512x1024_5_0_0 (tok xs) (comb te nu) (first l w) (second l d)))
      (part 6 slices_S16x1024x1024_S1x1024x1024_6_0_0 slices_S40960x16_S40960x1_0_6 slices_S16x512x1024_S1x512x1024_6_0_0 (tok xs) (comb te nu) (first l w) (second l d)))
      (part 7 slices_S16x1024x1024_S1x1024x1024_7_0_0 slices_S40960x16_S40960x1_0_7 slices_S16x512x1024_S1x512x1024_7_0_0 (tok xs) (comb te nu) (first l w) (second l d)))
      (part 8 slices_S16x1024x1024_S1x1024x1024_8_0_0 slices_S40960x16_S40960x1_0_8 slices_S16x512x1024_S1x512x1024_8_0_0 (tok xs) (comb te nu) (first l w) (second l d)))
      (part 9 slices_S16x1024x1024_S1x1024x1024_9_0_0 slices_S40960x16_S40960x1_0_9 slices_S16x512x1024_S1x512x1024_9_0_0 (tok xs) (comb te nu) (first l w) (second l d)))
      (part 10 slices_S16x1024x1024_S1x1024x1024_10_0_0 slices_S40960x16_S40960x1_0_10 slices_S16x512x1024_S1x512x1024_10_0_0 (tok xs) (comb te nu) (first l w) (second l d)))
      (part 11 slices_S16x1024x1024_S1x1024x1024_11_0_0 slices_S40960x16_S40960x1_0_11 slices_S16x512x1024_S1x512x1024_11_0_0 (tok xs) (comb te nu) (first l w) (second l d)))
      (part 12 slices_S16x1024x1024_S1x1024x1024_12_0_0 slices_S40960x16_S40960x1_0_12 slices_S16x512x1024_S1x512x1024_12_0_0 (tok xs) (comb te nu) (first l w) (second l d)))
      (part 13 slices_S16x1024x1024_S1x1024x1024_13_0_0 slices_S40960x16_S40960x1_0_13 slices_S16x512x1024_S1x512x1024_13_0_0 (tok xs) (comb te nu) (first l w) (second l d)))
      (part 14 slices_S16x1024x1024_S1x1024x1024_14_0_0 slices_S40960x16_S40960x1_0_14 slices_S16x512x1024_S1x512x1024_14_0_0 (tok xs) (comb te nu) (first l w) (second l d)))
      (part 15 slices_S16x1024x1024_S1x1024x1024_15_0_0 slices_S40960x16_S40960x1_0_15 slices_S16x512x1024_S1x512x1024_15_0_0 (tok xs) (comb te nu) (first l w) (second l d))

/-- A sum of sixteen, one after another. -/
theorem sum_sixteen (f : Fin 16 → EReal) :
    0 + f 0 + f 1 + f 2 + f 3 + f 4 + f 5 + f 6 + f 7 + f 8 + f 9 + f 10 + f 11 + f 12 + f 13 + f 14 + f 15 = ∑ e, f e := by
  simp only [Fin.sum_univ_castSucc, Finset.univ_eq_empty, Finset.sum_empty]
  rfl

/-- The product of a row with an expert's matrices. -/
def product (l : Fin 2) (xs : FVec Ideal S327680x128 .f32) (w : FVec Ideal S2x16x1024x1024 .f32) (d : FVec Ideal S2x16x512x1024 .f32) (r : Fin 40960) (e : Fin 16) (j : Fin 1024) : EReal :=
  ∑ u : Fin 512, gated (∑ k : Fin 1024, tok xs (ix2 r k) * w (ix4 l e k ⟨u.val, by omega⟩))
    (∑ k : Fin 1024, tok xs (ix2 r k) * w (ix4 l e k ⟨512 + u.val, by omega⟩)) * d (ix4 l e u j)

/-- The reference's rows at an entry, as a sum over the experts. -/
theorem rows_sum (l : Fin 2) (te : IVec S80 32) (nu : IVec S1 32) (xs : FVec Ideal S327680x128 .f32) (w : FVec Ideal S2x16x1024x1024 .f32) (d : FVec Ideal S2x16x512x1024 .f32)
    (r : Fin 40960) (j : Fin 1024) :
    rows l te nu xs w d (ix2 r j) = ∑ e : Fin 16, comb te nu (ix2 r e) * product l xs w d r e j := by
  have hp (e : Fin 16) (h1 : S16x1024x1024.Slices ![e.val, 0, 0] S1x1024x1024) (h2 : S40960x16.Slices ![0, e.val] S40960x1)
      (h3 : S16x512x1024.Slices ![e.val, 0, 0] S1x512x1024) :
      part e.val h1 h2 h3 (tok xs) (comb te nu) (first l w) (second l d) (ix2 r j) = comb te nu (ix2 r e) * product l xs w d r e j := by
    rw [part_at]
    simp only [first_at', second_at']
    rfl
  rw [← sum_sixteen]
  unfold rows
  have hz : (broadcastInDim S40960x1024 ![] bcast_S_S40960x1024 (constant (F := Ideal) S_ .f32 0x00000000#32)) (ix2 r j) = (0 : EReal) := by
    pointwise []
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (hz) (hp 0 _ _ _)) (hp 1 _ _ _)) (hp 2 _ _ _)) (hp 3 _ _ _)) (hp 4 _ _ _)) (hp 5 _ _ _)) (hp 6 _ _ _)) (hp 7 _ _ _)) (hp 8 _ _ _)) (hp 9 _ _ _)) (hp 10 _ _ _)) (hp 11 _ _ _)) (hp 12 _ _ _)) (hp 13 _ _ _)) (hp 14 _ _ _)) (hp 15 _ _ _)

/-- The reference's rows at an entry: the product with the tile's expert, or 0. -/
theorem rows_at (l : Fin 2) (te : IVec S80 32) (nu : IVec S1 32) (hn : (nu (ix1 0)).toNat ≤ 80) (xs : FVec Ideal S327680x128 .f32) (w : FVec Ideal S2x16x1024x1024 .f32)
    (d : FVec Ideal S2x16x512x1024 .f32) (r : Fin 40960) (j : Fin 1024) (e : Fin 16) (he : (te (ix1 ⟨r.val / 512, by omega⟩)).toNat = e.val) :
    rows l te nu xs w d (ix2 r j) = if r.val / 512 < (nu (ix1 0)).toNat then product l xs w d r e j else 0 := by
  have hte (e' : Fin 16) : te (ix1 ⟨r.val / 512, by omega⟩) = BitVec.ofNat 32 e'.val ↔ e' = e := by
    rw [← BitVec.toNat_inj, he, BitVec.toNat_ofNat, Nat.mod_eq_of_lt (by omega), Fin.ext_iff, eq_comm]
  rw [rows_sum, Finset.sum_eq_single e]
  · rw [comb_at te nu hn]
    by_cases b : r.val / 512 < (nu (ix1 0)).toNat <;> simp [hte, b]
  · intro e' _ hne
    rw [comb_at te nu hn, if_neg (fun h => hne ((hte e').1 h.1)), zero_mul]
  · exact fun h => absurd (Finset.mem_univ e) h

/-- The reference's result. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v243) = (shapeCast S327680x128 (rows 0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) shapeCasts_S40960x1024_S327680x128
          : FVec Ideal S327680x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (run m ρ)

end Cert.Reference2Ideal.Experts

end
-- ==== Proof.Experts.RefSecond.lean ====
module

public import proofs.«01_k».proof.Proof.Gen.Reference3Ideal.Run
public import proofs.«01_k».proof.Proof.Experts.RefValue

/-! The second layer's reference: the same rows, of the second half of the weights. -/

@[expose] public section

set_option maxRecDepth 65536

noncomputable section

namespace Cert.Reference3Ideal.Experts

open Cert.Reference3Ideal Cert.Reference3Ideal.Gen Cert.Reference3Ideal.Value
open Cert.Reference2Ideal.Experts (rows)
open Idealize.ShloMosaic Idealize.ShloMosaic.TcCoe Idealize.SL.Sem

/-- The reference's result. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v243) = (shapeCast S327680x128 (rows 1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) shapeCasts_S40960x1024_S327680x128
          : FVec Ideal S327680x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (run m ρ)

end Cert.Reference3Ideal.Experts

end
-- ==== Proof.Experts.Final.lean ====
module

public import proofs.«01_k».proof.Proof.Experts.Sound
public import Idealize.ShloMosaic.Lib.Pipeline.ValueKit
public import Idealize.ShloMosaic.Lib.Pipeline.Covers

/-!
The expert kernel's array of results after the run: each tile's rows are what the tile's body left.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} {l : Fin 2} {nu : ℕ}

variable (hf : Fits m l nu) (c : Dev nD)

/-- The array of the tiles' rows. -/
def outArr : Vec F S327680x128 .f32 := fun i =>
  outTile hf c ⟨(i 0).val / 4096, by have : (i 0).val < 327680 := (i 0).isLt; omega⟩ (ix2 ⟨(i 0).val % 4096, Nat.mod_lt _ (by decide)⟩ (i 1))

/-- An entry of the array inside a tile. -/
theorem outArr_at (n : Fin 80) (ix : Fin 2 → ℕ) (h : ix = ![n.val, 0]) (y : S4096x128.Idx) (z : S327680x128.Idx)
    (hz : ∀ a, (z a).val = ix a * S4096x128.size a + 1 * (y a).val) : outArr hf c z = outTile hf c n y := by
  subst h
  have h0 : (z 0).val = n.val * 4096 + 1 * (y 0).val := hz 0
  have h1 : (z 1).val = 0 * 128 + 1 * (y 1).val := hz 1
  have hy : (y 0).val < 4096 := (y 0).isLt
  unfold outArr
  rw [show (⟨(z 0).val / 4096, by have : (z 0).val < 327680 := (z 0).isLt; omega⟩ : Fin 80) = n from Fin.ext (by show (z 0).val / 4096 = n.val; omega)]
  refine congrArg (outTile hf c n) (funext fun a => Fin.ext ?_)
  match a with
  | ⟨0, _⟩ => show (z 0).val % 4096 = (y 0).val; omega
  | ⟨1, _⟩ => show (z 1).val = (y 1).val; omega

/-- The result's block at a point is the tile's. -/
theorem map4 (i : grid0.Coords) : cc0_transform_4 i = ![(i 0).val, 0] := by
  have := coord_lt i
  unfold cc0_transform_4
  simp only [BitVec.toNat_ofNat]
  rw [Nat.mod_eq_of_lt (by omega)]

/-- The blocks written cover the array. -/
theorem covers : ((cfgM hf).win 4).Covers := by
  refine Pipeline.Window.covers_of_indexMap_surj _ rfl (fun a => ?_) fun β => ?_
  · match a with
    | ⟨0, _⟩ => exact (by decide : 0 < 4096)
    | ⟨1, _⟩ => exact (by decide : 0 < 128)
  let i : grid0.Coords := fun x => ⟨(β ⟨0, Nat.zero_lt_two⟩).val, lt_of_lt_of_eq (β ⟨0, Nat.zero_lt_two⟩).isLt (by obtain rfl : x = ⟨0, Nat.zero_lt_one⟩ := Subsingleton.elim (α := Fin 1) _ _; exact (by decide : (327680 + 4096 - 1) / 4096 = 80))⟩
  refine ⟨i, fun a => (congrFun (map4 i) a).trans ?_⟩
  match a with
  | ⟨0, _⟩ => rfl
  | ⟨1, h⟩ => exact (Nat.lt_one_iff.1 (lt_of_lt_of_eq (β ⟨1, h⟩).isLt (by decide : (128 + 128 - 1) / 128 = 1))).symm

/-- The result after the run. -/
theorem final : (dats hf 0 c).arrAt 4 (cfgM hf).N = outArr hf c := by
  refine (dats hf 0 c).arrAt_eq_of_covers 4 _ (covers hf) fun t _ y => ?_
  have e := (map4 (grid0.coords t)).trans (by rw [coord_eq])
  exact (outArr_at hf c (tile hf t) _ e y _ fun a => rfl).symm

end Cert.Experts

end
-- ==== Proof.Experts.Value.lean ====
module

public import proofs.«01_k».proof.Proof.Experts.Final
public import proofs.«01_k».proof.Proof.Experts.RefValue

/-!
The kernel's array of results is the reference's.
-/

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {m : (ℓ : Loc nD τ sig) → Buf (Elt Ideal) ℓ} {l : Fin 2} {nu : ℕ}

/-- The core's table of experts. -/
theorem te_core (c : Dev nD) : (m ((c : Thread nD τ).loc main_arg0) : IVec S80 32) = teM m := by
  obtain rfl : c = 0 := Subsingleton.elim _ _; rfl

/-- The core's number of used tiles. -/
theorem nu_core (c : Dev nD) : (m ((c : Thread nD τ).loc main_arg1) : IVec S1 32) = nuM m := by
  obtain rfl : c = 0 := Subsingleton.elim _ _; rfl

/-- An expert's first matrix, as the kernel keeps it, at an entry. -/
theorem guW_at (l : Fin 2) (c : Dev nD) (e : Fin 16) (k j : Fin 1024) :
    guW l m c e (ix3 0 k j) = (m ((c : Thread nD τ).loc main_arg3) : Vec Ideal S2x16x1024x1024 .f32) (ix4 l e k j) := by
  have h (g : Vec Ideal S1x1x1024x1024 .f32) : k0_pay1 g (ix3 0 k j) = g (ix4 0 0 k j) := by pointwise [k0_pay1]
  exact h _

/-- An expert's second matrix, as the kernel keeps it, at an entry. -/
theorem dnW_at (l : Fin 2) (c : Dev nD) (e : Fin 16) (k : Fin 512) (j : Fin 1024) :
    dnW l m c e (ix2 k j) = (m ((c : Thread nD τ).loc main_arg4) : Vec Ideal S2x16x512x1024 .f32) (ix4 l e k j) := by
  have h (g : Vec Ideal S1x1x512x1024 .f32) : k0_pay3 g (ix2 k j) = g (ix4 0 0 k j) := by pointwise [k0_pay3]
  exact h _

/-- A row of a tile at an entry. -/
theorem row_at (c : Dev nD) (n : Fin 80) (r : Fin 512) (R : Fin 40960) (hR : R.val = 512 * n.val + r.val) (k : Fin 1024) :
    rowAt (rowBlock m c n) r k = Cert.Reference2Ideal.Experts.tok (m ((c : Thread nD τ).loc main_arg2)) (ix2 R k) := by
  rw [Cert.Reference2Ideal.Experts.tok_at]
  unfold rowAt rowBlock
  refine congrArg (m ((c : Thread nD τ).loc main_arg2) : Vec Ideal S327680x128 .f32) (congrArg₂ ix2 (Fin.ext ?_) rfl)
  show 4096 * n.val + (8 * r.val + k.val / 128) = 8 * R.val + k.val / 128
  omega

/-- An entry of the zeros. -/
theorem zero_at (y : S4096x128.Idx) : k0_pay9 (F := Ideal) y = (0 : EReal) := by
  show Scalar.ofBits (F := Ideal) .f32 0x00000000#32 = 0
  pointwise []

/-- A tile's rows at an entry. -/
theorem outTile_at (hf : Fits m l nu) (c : Dev nD) (n : Fin 80) (p : Fin 4096) (q : Fin 128) (R : Fin 40960) (hR : R.val = 512 * n.val + p.val / 8) :
    outTile hf c n (ix2 p q) = if n.val < nu then Cert.Reference2Ideal.Experts.product l (m ((c : Thread nD τ).loc main_arg2)) (m ((c : Thread nD τ).loc main_arg3))
      (m ((c : Thread nD τ).loc main_arg4)) R (expert hf n) ⟨p.val % 8 * 128 + q.val, by omega⟩ else 0 := by
  unfold outTile
  split
  · refine (prodTile_at _ _ _ ⟨p.val / 8, by omega⟩ ⟨p.val % 8 * 128 + q.val, by omega⟩).trans ?_
    simp only [guW_at, dnW_at, row_at c n ⟨p.val / 8, by omega⟩ R hR]
    rfl
  · exact zero_at _

/-- The kernel's array of results is the reference's. -/
theorem outArr_eq (hf : Fits m l nu) (c : Dev nD) :
    outArr hf c = shapeCast S327680x128 (Cert.Reference2Ideal.Experts.rows l (m ((c : Thread nD τ).loc main_arg0)) (m ((c : Thread nD τ).loc main_arg1))
      (m ((c : Thread nD τ).loc main_arg2)) (m ((c : Thread nD τ).loc main_arg3)) (m ((c : Thread nD τ).loc main_arg4)))
      Cert.Reference2Ideal.Facts₀.shapeCasts_S40960x1024_S327680x128 := by
  funext i
  obtain ⟨p, q, rfl⟩ : ∃ (p : Fin 327680) (q : Fin 128), i = ix2 p q := ⟨i 0, i 1, eq_ix2 _⟩
  have hnu : nu = (nuM m (ix1 0)).toNat := by rw [hf.used, BitVec.toNat_ofNat]; have := hf.le; omega
  have hle : (nuM m (ix1 0)).toNat ≤ 80 := hnu ▸ hf.le
  refine Eq.trans ?_ (shapeCast_apply _ _ _ (ix2 ⟨p.val / 8, by omega⟩ ⟨p.val % 8 * 128 + q.val, by omega⟩) (by
    simp only [Shape.rowMajor_val_two]; show p.val / 8 * 1024 + (p.val % 8 * 128 + q.val) = p.val * 128 + q.val; omega)).symm
  have hd : p.val / 8 / 512 = p.val / 4096 := by omega
  rw [te_core (m := m) c, nu_core (m := m) c, Cert.Reference2Ideal.Experts.rows_at l _ _ hle _ _ _ _ _ (expert hf ⟨p.val / 4096, by omega⟩) (by
    show (teM m (ix1 ⟨p.val / 8 / 512, _⟩)).toNat = (teM m (ix1 ⟨p.val / 4096, _⟩)).toNat
    simp only [hd])]
  refine (outTile_at hf c ⟨p.val / 4096, by omega⟩ ⟨p.val % 4096, Nat.mod_lt _ (by decide)⟩ q ⟨p.val / 8, by omega⟩ (by
    show p.val / 8 = 512 * (p.val / 4096) + p.val % 4096 / 8; omega)).trans ?_
  have hm : p.val % 4096 % 8 = p.val % 8 := by omega
  simp only [hd, hm, ← hnu]

end Cert.Experts

end
-- ==== Proof.Experts.Claims.lean ====
module

public import proofs.«01_k».proof.Defs
public import proofs.«01_k».proof.Proof.Experts.SameFirst
public import proofs.«01_k».proof.Proof.Experts.SameFirstIdeal
public import proofs.«01_k».proof.Proof.Experts.SameSecond
public import proofs.«01_k».proof.Proof.Experts.SameSecondIdeal
public import proofs.«01_k».proof.Proof.Experts.Frame
public import proofs.«01_k».proof.Proof.Experts.Pre
public import proofs.«01_k».proof.Proof.Experts.RefSecond
public import proofs.«01_k».proof.Proof.Experts.Value

/-! The claims about the experts' product: five for each of the two layers. -/

@[expose] public section

noncomputable section

namespace Cert.Experts

open Idealize.ShloMosaic Idealize.ShloMosaic.TcCoe Idealize.SL.Sem
open Cert.Kernel2Ideal (nD τ sig main_arg0 main_arg1 main_arg2 main_arg3 main_arg4 main_v10)

/-- A memory within the precondition has tables that fit, whatever the numbers are. -/
theorem fits_of_pre {F : FTy → Type} [FloatOps F] (l : Fin 2) (m : (ℓ : Loc nD τ sig) → Buf (Elt F) ℓ)
    (h : ∀ c : Dev nD, Cert.Pre_experts_pre.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Fits m l (nuM m (ix1 0)).toNat :=
  fits_of_bounds l m (bounds_of_pre _ _ _ _ _ (h 0))

/-- What a program that runs as the layer's kernel leaves: the tiles' rows, every argument as launched, every counter at zero. -/
theorem leaves {F : FTy → Type} [FloatOps F] {l : Fin 2} {nu : ℕ} (m : (ℓ : Loc nD τ sig) → Buf (Elt F) ℓ) (hf : Fits m l nu) (ρ : Dev nD → PrngReg) {T}
    (e : T = θ_run (defsL (F := F) l) (onTc (τ := τ) (mainL (F := F) l))) :
    T ⟨m, fun _ => 0, ρ⟩ (fun r => (∀ c : Dev nD,
      r.2.mem ((c.tc : Thread nD τ).loc main_v10) = outArr hf c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  subst e
  exact (θ_run (defsL l) _ _).mono (fun _ h => ⟨fun c => ⟨(h.1 c).1.trans (final hf c), (h.1 c).2⟩, h.2⟩) (run m hf ρ)

/-- The first layer's kernel on the hardware's numbers ends, its arguments unchanged. -/
theorem frame_kernel : Cert.quiescent_Kernel2 := fun m ρ h =>
  (θ_run Cert.Kernel2.defs _ _).mono (fun _ h => ⟨fun c => (h.1 c).2, h.2⟩) (leaves (F := Bits) m (fits_of_pre (F := Bits) 0 m h) ρ First.run_same)

/-- The first layer's kernel on extended reals ends, its arguments unchanged. -/
theorem frame_ideal : Cert.quiescent_Kernel2Ideal := fun m ρ h =>
  (θ_run Cert.Kernel2Ideal.defs _ _).mono (fun _ h => ⟨fun c => (h.1 c).2, h.2⟩) (leaves (F := Ideal) m (fits_of_pre (F := Ideal) 0 m h) ρ FirstIdeal.run_same)

/-- The first layer's reference ends, its arguments unchanged. -/
theorem frame_reference : Cert.quiescent_Reference2Ideal := fun m ρ _ =>
  (θ_run _ _ _).mono (fun r h => ⟨fun c => (h c).2, sem_eq_zero_of_no_sems (by decide) r.2⟩) (Cert.Reference2Ideal.Value.run m ρ)

/-- The first layer's kernel and reference end with equal results. -/
theorem algebraic : Cert.algebraic_Kernel2Ideal_Reference2Ideal := fun m ρ m' ρ' hp hag =>
  ⟨fun c => outArr (fits_of_pre 0 m hp) c,
    (θ_run Cert.Kernel2Ideal.defs _ _).mono (fun _ h => h.1) (leaves (F := Ideal) m (fits_of_pre 0 m hp) ρ FirstIdeal.run_same),
    (θ_run _ _ _).mono (fun _ h c => ⟨(h c).1.trans ((by obtain ⟨e0, e1, e2, e3, e4⟩ := hag c; rw [e0, e1, e2, e3, e4] : _ = _).trans (outArr_eq (fits_of_pre 0 m hp) c).symm), (h c).2⟩)
      (Cert.Reference2Ideal.Experts.result m' ρ')⟩

/-- The second layer's kernel on the hardware's numbers ends, its arguments unchanged. -/
theorem frame_kernel1 : Cert.quiescent_Kernel3 := fun m ρ h =>
  (θ_run Cert.Kernel3.defs _ _).mono (fun _ h => ⟨fun c => (h.1 c).2, h.2⟩) (leaves (F := Bits) m (fits_of_pre (F := Bits) 1 m h) ρ Second.run_same)

/-- The second layer's kernel on extended reals ends, its arguments unchanged. -/
theorem frame_ideal1 : Cert.quiescent_Kernel3Ideal := fun m ρ h =>
  (θ_run Cert.Kernel3Ideal.defs _ _).mono (fun _ h => ⟨fun c => (h.1 c).2, h.2⟩) (leaves (F := Ideal) m (fits_of_pre (F := Ideal) 1 m h) ρ SecondIdeal.run_same)

/-- The second layer's reference ends, its arguments unchanged. -/
theorem frame_reference1 : Cert.quiescent_Reference3Ideal := fun m ρ _ =>
  (θ_run _ _ _).mono (fun r h => ⟨fun c => (h c).2, sem_eq_zero_of_no_sems (by decide) r.2⟩) (Cert.Reference3Ideal.Value.run m ρ)

/-- The second layer's kernel and reference end with equal results. -/
theorem algebraic1 : Cert.algebraic_Kernel3Ideal_Reference3Ideal := fun m ρ m' ρ' hp hag =>
  ⟨fun c => outArr (fits_of_pre 1 m hp) c,
    (θ_run Cert.Kernel3Ideal.defs _ _).mono (fun _ h => h.1) (leaves (F := Ideal) m (fits_of_pre 1 m hp) ρ SecondIdeal.run_same),
    (θ_run _ _ _).mono (fun _ h c => ⟨(h c).1.trans ((by obtain ⟨e0, e1, e2, e3, e4⟩ := hag c; rw [e0, e1, e2, e3, e4] : _ = _).trans (outArr_eq (fits_of_pre 1 m hp) c).symm), (h c).2⟩)
      (Cert.Reference3Ideal.Experts.result m' ρ')⟩

end Cert.Experts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Conv.Claims
public import proofs.«01_k».proof.Proof.Experts.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3Ideal
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_experts_pre

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_experts_pre.Gen.facts,
    Cert.Conv.frame_kernel, Cert.Conv.frame_ideal, Cert.Conv.frame_reference,
    Cert.Experts.frame_kernel, Cert.Experts.frame_ideal, Cert.Experts.frame_reference,
    Cert.Experts.frame_kernel1, Cert.Experts.frame_ideal1, Cert.Experts.frame_reference1,
    trivial, Cert.Conv.algebraic, trivial, Cert.Experts.algebraic, trivial, Cert.Experts.algebraic1⟩

end Cert.Proof

end
